-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_encoding_normalized [hPre_encoding_normalized : Cert.Pre_encoding_normalized.Facts] (m : (ℓ : Loc Cert.KernelIdeal.nD Cert.KernelIdeal.τ Cert.KernelIdeal.sig) → Buf (Elt Ideal) ℓ) : Prop :=
  ∀ c : Dev Cert.KernelIdeal.nD,
    (Cert.Pre_encoding_normalized.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_encoding_normalized [hPre_encoding_normalized : Cert.Pre_encoding_normalized.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_encoding_normalized.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_encoding_normalized [hKernelIdeal : Cert.KernelIdeal.Facts] [hPre_encoding_normalized : Cert.Pre_encoding_normalized.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_encoding_normalized m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_encoding_normalized [hReferenceIdeal : Cert.ReferenceIdeal.Facts] [hPre_encoding_normalized : Cert.Pre_encoding_normalized.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_encoding_normalized m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  IdealRules.named_const.Statement Cert.KernelIdeal.κ "rsqrt2" .f32 0x3F3504F3#32 (((Real.sqrt 2)⁻¹ : ℝ) : EReal)

def algebraic_KernelIdeal_ReferenceIdeal_pre_encoding_normalized [hKernelIdeal : Cert.KernelIdeal.Facts] [hReferenceIdeal : Cert.ReferenceIdeal.Facts] [hPre_encoding_normalized : Cert.Pre_encoding_normalized.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_encoding_normalized m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v9_0)) (v1 : (c : Dev Cert.KernelIdeal.nD) → Buf (Elt Ideal) ((c.tc : Thread Cert.KernelIdeal.nD Cert.KernelIdeal.τ).loc Cert.KernelIdeal.main_v9_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9_0) = v0 c
          ∧ r.2.mem ((c.tc : Thread Cert.KernelIdeal.nD Cert.KernelIdeal.τ).loc Cert.KernelIdeal.main_v9_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_v90) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_encoding_normalized : Cert.Pre_encoding_normalized.Facts),
    quiescent_Kernel (hKernel := hKernel)
    ∧ quiescent_KernelIdeal (hKernelIdeal := hKernelIdeal)
    ∧ quiescent_KernelIdeal_pre_encoding_normalized (hKernelIdeal := hKernelIdeal) (hPre_encoding_normalized := hPre_encoding_normalized)
    ∧ quiescent_ReferenceIdeal (hReferenceIdeal := hReferenceIdeal)
    ∧ quiescent_ReferenceIdeal_pre_encoding_normalized (hReferenceIdeal := hReferenceIdeal) (hPre_encoding_normalized := hPre_encoding_normalized)
    ∧ preserves_Kernel_KernelIdeal
    ∧ algebraic_KernelIdeal_ReferenceIdeal_pre_encoding_normalized (hKernelIdeal := hKernelIdeal) (hReferenceIdeal := hReferenceIdeal) (hPre_encoding_normalized := hPre_encoding_normalized)
-- ==== Pre_encoding_normalized.lean ====
abbrev S1024x16x2048 : Shape := ⟨3, ![1024, 16, 2048]⟩
abbrev S1024x2048 : Shape := ⟨2, ![1024, 2048]⟩
abbrev S1024 : Shape := ⟨1, ![1024]⟩
abbrev S512x1024 : Shape := ⟨2, ![512, 1024]⟩
abbrev S512 : Shape := ⟨1, ![512]⟩
abbrev S128x512 : Shape := ⟨2, ![128, 512]⟩
abbrev S128 : Shape := ⟨1, ![128]⟩
abbrev S100000x128 : Shape := ⟨2, ![100000, 128]⟩
abbrev S1024x1x2048 : Shape := ⟨3, ![1024, 1, 2048]⟩
abbrev S2048x1024 : Shape := ⟨2, ![2048, 1024]⟩
abbrev S1024x1024 : Shape := ⟨2, ![1024, 1024]⟩
abbrev S1x1024 : Shape := ⟨2, ![1, 1024]⟩
abbrev S_ : Shape := ⟨0, ![]⟩
abbrev S1024x1 : Shape := ⟨2, ![1024, 1]⟩
abbrev S1024x512 : Shape := ⟨2, ![1024, 512]⟩
abbrev S1x512 : Shape := ⟨2, ![1, 512]⟩
abbrev S512x128 : Shape := ⟨2, ![512, 128]⟩
abbrev S1024x128 : Shape := ⟨2, ![1024, 128]⟩
abbrev S1x128 : Shape := ⟨2, ![1, 128]⟩

class Facts : Prop where
  slices_S1024x16x2048_S1024x1x2048_0_0_0 : S1024x16x2048.Slices ![0, 0, 0] S1024x1x2048
  shapeCasts_S1024x1x2048_S1024x2048 : S1024x1x2048.ShapeCasts S1024x2048
  transposes_S1024x2048_S2048x1024_1_0 : S1024x2048.Transposes [1, 0] S2048x1024
  bcast_S1024_S1x1024_1 : S1024.BroadcastsInDim S1x1024 (![1] : Fin 1 → Fin S1x1024.rank)
  bcast_S1x1024_S1024x1024_0_1 : S1x1024.BroadcastsInDim S1024x1024 (![0, 1] : Fin 2 → Fin S1024x1024.rank)
  reducesTo_S1024x1024_S1024_d1 : S1024x1024.ReducesTo [1] S1024
  h_S_ : 0 < S_.numel
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S1024x1_S1024x1024_0_1 : S1024x1.BroadcastsInDim S1024x1024 (![0, 1] : Fin 2 → Fin S1024x1024.rank)
  bcast_S_S1024x1024 : S_.BroadcastsInDim S1024x1024 (![] : Fin 0 → Fin S1024x1024.rank)
  transposes_S512x1024_S1024x512_1_0 : S512x1024.Transposes [1, 0] S1024x512
  bcast_S512_S1x512_1 : S512.BroadcastsInDim S1x512 (![1] : Fin 1 → Fin S1x512.rank)
  bcast_S1x512_S1024x512_0_1 : S1x512.BroadcastsInDim S1024x512 (![0, 1] : Fin 2 → Fin S1024x512.rank)
  reducesTo_S1024x512_S1024_d1 : S1024x512.ReducesTo [1] S1024
  bcast_S1024x1_S1024x512_0_1 : S1024x1.BroadcastsInDim S1024x512 (![0, 1] : Fin 2 → Fin S1024x512.rank)
  bcast_S_S1024x512 : S_.BroadcastsInDim S1024x512 (![] : Fin 0 → Fin S1024x512.rank)
  transposes_S128x512_S512x128_1_0 : S128x512.Transposes [1, 0] S512x128
  bcast_S128_S1x128_1 : S128.BroadcastsInDim S1x128 (![1] : Fin 1 → Fin S1x128.rank)
  bcast_S1x128_S1024x128_0_1 : S1x128.BroadcastsInDim S1024x128 (![0, 1] : Fin 2 → Fin S1024x128.rank)
  reducesTo_S1024x128_S1024_d1 : S1024x128.ReducesTo [1] S1024
  bcast_S_S1024 : S_.BroadcastsInDim S1024 (![] : Fin 0 → Fin S1024.rank)
  dot_S1024x2048_S2048x1024_S1024x1024_1_0_0_1_n_n_wf : DotDims.WF S1024x2048 S2048x1024 S1024x1024 [1] [0] [0] [1] [] []
  dot_S1024x1024_S1024x512_S1024x512_1_0_0_1_n_n_wf : DotDims.WF S1024x1024 S1024x512 S1024x512 [1] [0] [0] [1] [] []
  dot_S1024x512_S512x128_S1024x128_1_0_0_1_n_n_wf : DotDims.WF S1024x512 S512x128 S1024x128 [1] [0] [0] [1] [] []

variable [Facts]

def dot_S1024x2048_S2048x1024_S1024x1024_1_0_0_1_n_n : DotDims S1024x2048 S2048x1024 S1024x1024 where
  lhsContracting := [1]
  rhsContracting := [0]
  lhsNonContracting := [0]
  rhsNonContracting := [1]
  lhsBatch := []
  rhsBatch := []
  wf := dot_S1024x2048_S2048x1024_S1024x1024_1_0_0_1_n_n_wf
def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf
def dot_S1024x512_S512x128_S1024x128_1_0_0_1_n_n : DotDims S1024x512 S512x128 S1024x128 where
  lhsContracting := [1]
  rhsContracting := [0]
  lhsNonContracting := [0]
  rhsNonContracting := [1]
  lhsBatch := []
  rhsBatch := []
  wf := dot_S1024x512_S512x128_S1024x128_1_0_0_1_n_n_wf
def fn_where {F : FTy → Type} [FloatOps F] (arg0 : IVec S_ 1) (arg1 : FVec F S1024x1 .f32) (arg2 : FVec F S_ .f32) : FVec F S1024x1 .f32 :=
  let v0 : FVec F S_ .f32 := id arg2
  let v1 : FVec F S1024x1 .f32 := broadcastInDim S1024x1 ![] bcast_S_S1024x1 v0
  let v2 : FVec F S1024x1 .f32 := (fun p a b => select (broadcastInDim S1024x1 ![] bcast_S_S1024x1 p) a b) arg0 arg1 v1
  v2

def fn_var {F : FTy → Type} [FloatOps F] (arg0 : FVec F S1024x1024 .f32) (arg1 : IVec S_ 32) : FVec F S1024x1 .f32 :=
  let cst : FVec F S_ .f32 := constant S_ .f32 0x00000000#32
  let v0 : FVec F S1024 .f32 := (fun x v => Host.reduceAdd x v reducesTo_S1024x1024_S1024_d1 h_S_) arg0 cst
  let v1 : FVec F S1024x1 .f32 := broadcastInDim S1024x1 ![0] bcast_S1024_S1024x1_0 v0
  let cst_0 : FVec F S_ .f32 := constant S_ .f32 0x44800000#32
  let v2 : FVec F S1024x1 .f32 := broadcastInDim S1024x1 ![] bcast_S_S1024x1 cst_0
  let v3 : FVec F S1024x1 .f32 := Host.divf v1 v2
  let v4 : FVec F S1024x1024 .f32 := broadcastInDim S1024x1024 ![0, 1] bcast_S1024x1_S1024x1024_0_1 v3
  let v5 : FVec F S1024x1024 .f32 := subf arg0 v4
  let v6 : FVec F S1024x1024 .f32 := mulf v5 v5
  let v7 : FVec F S_ .f32 := sitofp .f32 arg1
  let cst_1 : FVec F S_ .f32 := constant S_ .f32 0x44800000#32
  let v8 : FVec F S_ .f32 := subf cst_1 v7
  let cst_2 : FVec F S_ .f32 := constant S_ .f32 0x00000000#32
  let v9 : FVec F S1024 .f32 := (fun x v => Host.reduceAdd x v reducesTo_S1024x1024_S1024_d1 h_S_) v6 cst_2
  let v10 : FVec F S1024x1 .f32 := broadcastInDim S1024x1 ![0] bcast_S1024_S1024x1_0 v9
  let v11 : FVec F S1024x1 .f32 := broadcastInDim S1024x1 ![] bcast_S_S1024x1 v8
  let v12 : FVec F S1024x1 .f32 := Host.divf v10 v11
  let cst_3 : FVec F S_ .f32 := constant S_ .f32 0x00000000#32
  let v13 : IVec S_ 1 := cmpf .ogt v8 cst_3
  let cst_4 : FVec F S_ .f32 := constant S_ .f32 0x7FC00000#32
  let v14 : FVec F S1024x1 .f32 := fn_where (F := F) v13 v12 cst_4
  v14

def fn_var_0 {F : FTy → Type} [FloatOps F] (arg0 : FVec F S1024x512 .f32) (arg1 : IVec S_ 32) : FVec F S1024x1 .f32 :=
  let cst : FVec F S_ .f32 := constant S_ .f32 0x00000000#32
  let v0 : FVec F S1024 .f32 := (fun x v => Host.reduceAdd x v reducesTo_S1024x512_S1024_d1 h_S_) arg0 cst
  let v1 : FVec F S1024x1 .f32 := broadcastInDim S1024x1 ![0] bcast_S1024_S1024x1_0 v0
  let cst_0 : FVec F S_ .f32 := constant S_ .f32 0x44000000#32
  let v2 : FVec F S1024x1 .f32 := broadcastInDim S1024x1 ![] bcast_S_S1024x1 cst_0
  let v3 : FVec F S1024x1 .f32 := Host.divf v1 v2
  let v4 : FVec F S1024x512 .f32 := broadcastInDim S1024x512 ![0, 1] bcast_S1024x1_S1024x512_0_1 v3
  let v5 : FVec F S1024x512 .f32 := subf arg0 v4
  let v6 : FVec F S1024x512 .f32 := mulf v5 v5
  let v7 : FVec F S_ .f32 := sitofp .f32 arg1
  let cst_1 : FVec F S_ .f32 := constant S_ .f32 0x44000000#32
  let v8 : FVec F S_ .f32 := subf cst_1 v7
  let cst_2 : FVec F S_ .f32 := constant S_ .f32 0x00000000#32
  let v9 : FVec F S1024 .f32 := (fun x v => Host.reduceAdd x v reducesTo_S1024x512_S1024_d1 h_S_) v6 cst_2
  let v10 : FVec F S1024x1 .f32 := broadcastInDim S1024x1 ![0] bcast_S1024_S1024x1_0 v9
  let v11 : FVec F S1024x1 .f32 := broadcastInDim S1024x1 ![] bcast_S_S1024x1 v8
  let v12 : FVec F S1024x1 .f32 := Host.divf v10 v11
  let cst_3 : FVec F S_ .f32 := constant S_ .f32 0x00000000#32
  let v13 : IVec S_ 1 := cmpf .ogt v8 cst_3
  let cst_4 : FVec F S_ .f32 := constant S_ .f32 0x7FC00000#32
  let v14 : FVec F S1024x1 .f32 := fn_where (F := F) v13 v12 cst_4
  v14

def fn_norm {F : FTy → Type} [FloatOps F] (arg0 : FVec F S1024x128 .f32) : FVec F S1024 .f32 :=
  let v0 : FVec F S1024x128 .f32 := mulf arg0 arg0
  let cst : FVec F S_ .f32 := constant S_ .f32 0x00000000#32
  let v1 : FVec F S1024 .f32 := (fun x v => Host.reduceAdd x v reducesTo_S1024x128_S1024_d1 h_S_) v0 cst
  let v2 : FVec F S1024 .f32 := Host.sqrt v1
  v2

def fn_part3 {F : FTy → Type} [FloatOps F] (main_arg9 : FVec F S128x512 .f32) (main_arg10 : FVec F S128 .f32) (main_v56 : FVec F S1024x512 .f32) (main_v59 : FVec F S1024x512 .f32) : IVec S1024 1 :=
  let main_v60 : FVec F S1024x512 .f32 := Host.erf main_v59
  let main_cst_10 : FVec F S_ .f32 := constant S_ .f32 0x3F800000#32
  let main_v61 : FVec F S1024x512 .f32 := broadcastInDim S1024x512 ![] bcast_S_S1024x512 main_cst_10
  let main_v62 : FVec F S1024x512 .f32 := addf main_v61 main_v60
  let main_v63 : FVec F S1024x512 .f32 := mulf main_v56 main_v62
  let main_cst_11 : FVec F S_ .f32 := constant S_ .f32 0x40000000#32
  let main_v64 : FVec F S1024x512 .f32 := broadcastInDim S1024x512 ![] bcast_S_S1024x512 main_cst_11
  let main_v65 : FVec F S1024x512 .f32 := Host.divf main_v63 main_v64
  let main_v66 : FVec F S512x128 .f32 := (transpose S512x128 [1, 0] · transposes_S128x512_S512x128_1_0) main_arg9
  let main_v67 : FVec F S1024x128 .f32 := (fun l r => Host.dotGeneral dot_S1024x512_S512x128_S1024x128_1_0_0_1_n_n none l r) main_v65 main_v66
  let main_v68 : FVec F S1x128 .f32 := broadcastInDim S1x128 ![1] bcast_S128_S1x128_1 main_arg10
  let main_v69 : FVec F S1024x128 .f32 := broadcastInDim S1024x128 ![0, 1] bcast_S1x128_S1024x128_0_1 main_v68
  let main_v70 : FVec F S1024x128 .f32 := addf main_v67 main_v69
  let main_v71 : FVec F S1024 .f32 := fn_norm (F := F) main_v70
  let main_cst_12 : FVec F S_ .f32 := constant S_ .f32 0x2B8CBCCC#32
  let main_v72 : FVec F S1024 .f32 := broadcastInDim S1024 ![] bcast_S_S1024 main_cst_12
  let main_v73 : IVec S1024 1 := cmpf .oge main_v71 main_v72
  let main_cst_13 : FVec F S_ .f32 := constant S_ .f32 0x00000000#32
  let main_v74 : FVec F S1024 .f32 := broadcastInDim S1024 ![] bcast_S_S1024 main_cst_13
  let main_v75 : IVec S1024 1 := cmpf .oeq main_v71 main_v74
  let main_v76 : IVec S1024 1 := ori main_v73 main_v75
  main_v76

def fn_part2 {F : FTy → Type} [FloatOps F] (main_arg7 : FVec F S512 .f32) (main_arg8 : FVec F S512 .f32) (main_arg9 : FVec F S128x512 .f32) (main_arg10 : FVec F S128 .f32) (main_v38 : FVec F S1024x512 .f32) (main_v39 : FVec F S1024 .f32) : IVec S1024 1 :=
  let main_v40 : FVec F S1024x1 .f32 := broadcastInDim S1024x1 ![0] bcast_S1024_S1024x1_0 main_v39
  let main_cst_6 : FVec F S_ .f32 := constant S_ .f32 0x44000000#32
  let main_v41 : FVec F S1024x1 .f32 := broadcastInDim S1024x1 ![] bcast_S_S1024x1 main_cst_6
  let main_v42 : FVec F S1024x1 .f32 := Host.divf main_v40 main_v41
  let main_c_7 : IVec S_ 32 := constantI S_ 32 0#32
  let main_v43 : FVec F S1024x1 .f32 := fn_var_0 (F := F) main_v38 main_c_7
  let main_v44 : FVec F S1024x512 .f32 := broadcastInDim S1024x512 ![0, 1] bcast_S1024x1_S1024x512_0_1 main_v42
  let main_v45 : FVec F S1024x512 .f32 := subf main_v38 main_v44
  let main_cst_8 : FVec F S_ .f32 := constant S_ .f32 0x3727C5AC#32
  let main_v46 : FVec F S1024x1 .f32 := broadcastInDim S1024x1 ![] bcast_S_S1024x1 main_cst_8
  let main_v47 : FVec F S1024x1 .f32 := addf main_v43 main_v46
  let main_v48 : FVec F S1024x1 .f32 := Host.sqrt main_v47
  let main_v49 : FVec F S1024x512 .f32 := broadcastInDim S1024x512 ![0, 1] bcast_S1024x1_S1024x512_0_1 main_v48
  let main_v50 : FVec F S1024x512 .f32 := Host.divf main_v45 main_v49
  let main_v51 : FVec F S1x512 .f32 := broadcastInDim S1x512 ![1] bcast_S512_S1x512_1 main_arg7
  let main_v52 : FVec F S1024x512 .f32 := broadcastInDim S1024x512 ![0, 1] bcast_S1x512_S1024x512_0_1 main_v51
  let main_v53 : FVec F S1024x512 .f32 := mulf main_v50 main_v52
  let main_v54 : FVec F S1x512 .f32 := broadcastInDim S1x512 ![1] bcast_S512_S1x512_1 main_arg8
  let main_v55 : FVec F S1024x512 .f32 := broadcastInDim S1024x512 ![0, 1] bcast_S1x512_S1024x512_0_1 main_v54
  let main_v56 : FVec F S1024x512 .f32 := addf main_v53 main_v55
  let main_cst_9 : FVec F S_ .f32 := constant S_ .f32 0x40000000#32
  let main_v57 : FVec F S_ .f32 := Host.sqrt main_cst_9
  let main_v58 : FVec F S1024x512 .f32 := broadcastInDim S1024x512 ![] bcast_S_S1024x512 main_v57
  let main_v59 : FVec F S1024x512 .f32 := Host.divf main_v56 main_v58
  fn_part3 (F := F) main_arg9 main_arg10 main_v56 main_v59

def fn_part1 {F : FTy → Type} [FloatOps F] (main_arg4 : FVec F S1024 .f32) (main_arg5 : FVec F S512x1024 .f32) (main_arg6 : FVec F S512 .f32) (main_arg7 : FVec F S512 .f32) (main_arg8 : FVec F S512 .f32) (main_arg9 : FVec F S128x512 .f32) (main_arg10 : FVec F S128 .f32) (main_v18 : FVec F S1024x1024 .f32) (main_v19 : FVec F S1x1024 .f32) : IVec S1024 1 :=
  let main_v20 : FVec F S1024x1024 .f32 := broadcastInDim S1024x1024 ![0, 1] bcast_S1x1024_S1024x1024_0_1 main_v19
  let main_v21 : FVec F S1024x1024 .f32 := mulf main_v18 main_v20
  let main_v22 : FVec F S1x1024 .f32 := broadcastInDim S1x1024 ![1] bcast_S1024_S1x1024_1 main_arg4
  let main_v23 : FVec F S1024x1024 .f32 := broadcastInDim S1024x1024 ![0, 1] bcast_S1x1024_S1024x1024_0_1 main_v22
  let main_v24 : FVec F S1024x1024 .f32 := addf main_v21 main_v23
  let main_cst_2 : FVec F S_ .f32 := constant S_ .f32 0x40000000#32
  let main_v25 : FVec F S_ .f32 := Host.sqrt main_cst_2
  let main_v26 : FVec F S1024x1024 .f32 := broadcastInDim S1024x1024 ![] bcast_S_S1024x1024 main_v25
  let main_v27 : FVec F S1024x1024 .f32 := Host.divf main_v24 main_v26
  let main_v28 : FVec F S1024x1024 .f32 := Host.erf main_v27
  let main_cst_3 : FVec F S_ .f32 := constant S_ .f32 0x3F800000#32
  let main_v29 : FVec F S1024x1024 .f32 := broadcastInDim S1024x1024 ![] bcast_S_S1024x1024 main_cst_3
  let main_v30 : FVec F S1024x1024 .f32 := addf main_v29 main_v28
  let main_v31 : FVec F S1024x1024 .f32 := mulf main_v24 main_v30
  let main_cst_4 : FVec F S_ .f32 := constant S_ .f32 0x40000000#32
  let main_v32 : FVec F S1024x1024 .f32 := broadcastInDim S1024x1024 ![] bcast_S_S1024x1024 main_cst_4
  let main_v33 : FVec F S1024x1024 .f32 := Host.divf main_v31 main_v32
  let main_v34 : FVec F S1024x512 .f32 := (transpose S1024x512 [1, 0] · transposes_S512x1024_S1024x512_1_0) main_arg5
  let main_v35 : FVec F S1024x512 .f32 := (fun l r => Host.dotGeneral dot_S1024x1024_S1024x512_S1024x512_1_0_0_1_n_n none l r) main_v33 main_v34
  let main_v36 : FVec F S1x512 .f32 := broadcastInDim S1x512 ![1] bcast_S512_S1x512_1 main_arg6
  let main_v37 : FVec F S1024x512 .f32 := broadcastInDim S1024x512 ![0, 1] bcast_S1x512_S1024x512_0_1 main_v36
  let main_v38 : FVec F S1024x512 .f32 := addf main_v35 main_v37
  let main_cst_5 : FVec F S_ .f32 := constant S_ .f32 0x00000000#32
  let main_v39 : FVec F S1024 .f32 := (fun x v => Host.reduceAdd x v reducesTo_S1024x512_S1024_d1 h_S_) main_v38 main_cst_5
  fn_part2 (F := F) main_arg7 main_arg8 main_arg9 main_arg10 main_v38 main_v39

def fn {F : FTy → Type} [FloatOps F] (main_arg0 : FVec F S1024x16x2048 .f32) (main_arg1 : FVec F S1024x2048 .f32) (main_arg2 : FVec F S1024 .f32) (main_arg3 : FVec F S1024 .f32) (main_arg4 : FVec F S1024 .f32) (main_arg5 : FVec F S512x1024 .f32) (main_arg6 : FVec F S512 .f32) (main_arg7 : FVec F S512 .f32) (main_arg8 : FVec F S512 .f32) (main_arg9 : FVec F S128x512 .f32) (main_arg10 : FVec F S128 .f32) (main_arg11 : FVec F S100000x128 .f32) : IVec S1024 1 :=
  let main_v0 : FVec F S1024x1x2048 .f32 := (extractStridedSlice S1024x1x2048 ![0, 0, 0] · slices_S1024x16x2048_S1024x1x2048_0_0_0) main_arg0
  let main_v1 : FVec F S1024x2048 .f32 := shapeCast S1024x2048 main_v0 shapeCasts_S1024x1x2048_S1024x2048
  let main_v2 : FVec F S2048x1024 .f32 := (transpose S2048x1024 [1, 0] · transposes_S1024x2048_S2048x1024_1_0) main_arg1
  let main_v3 : FVec F S1024x1024 .f32 := (fun l r => Host.dotGeneral dot_S1024x2048_S2048x1024_S1024x1024_1_0_0_1_n_n none l r) main_v1 main_v2
  let main_v4 : FVec F S1x1024 .f32 := broadcastInDim S1x1024 ![1] bcast_S1024_S1x1024_1 main_arg2
  let main_v5 : FVec F S1024x1024 .f32 := broadcastInDim S1024x1024 ![0, 1] bcast_S1x1024_S1024x1024_0_1 main_v4
  let main_v6 : FVec F S1024x1024 .f32 := addf main_v3 main_v5
  let main_cst : FVec F S_ .f32 := constant S_ .f32 0x00000000#32
  let main_v7 : FVec F S1024 .f32 := (fun x v => Host.reduceAdd x v reducesTo_S1024x1024_S1024_d1 h_S_) main_v6 main_cst
  let main_v8 : FVec F S1024x1 .f32 := broadcastInDim S1024x1 ![0] bcast_S1024_S1024x1_0 main_v7
  let main_cst_0 : FVec F S_ .f32 := constant S_ .f32 0x44800000#32
  let main_v9 : FVec F S1024x1 .f32 := broadcastInDim S1024x1 ![] bcast_S_S1024x1 main_cst_0
  let main_v10 : FVec F S1024x1 .f32 := Host.divf main_v8 main_v9
  let main_c : IVec S_ 32 := constantI S_ 32 0#32
  let main_v11 : FVec F S1024x1 .f32 := fn_var (F := F) main_v6 main_c
  let main_v12 : FVec F S1024x1024 .f32 := broadcastInDim S1024x1024 ![0, 1] bcast_S1024x1_S1024x1024_0_1 main_v10
  let main_v13 : FVec F S1024x1024 .f32 := subf main_v6 main_v12
  let main_cst_1 : FVec F S_ .f32 := constant S_ .f32 0x3727C5AC#32
  let main_v14 : FVec F S1024x1 .f32 := broadcastInDim S1024x1 ![] bcast_S_S1024x1 main_cst_1
  let main_v15 : FVec F S1024x1 .f32 := addf main_v11 main_v14
  let main_v16 : FVec F S1024x1 .f32 := Host.sqrt main_v15
  let main_v17 : FVec F S1024x1024 .f32 := broadcastInDim S1024x1024 ![0, 1] bcast_S1024x1_S1024x1024_0_1 main_v16
  let main_v18 : FVec F S1024x1024 .f32 := Host.divf main_v13 main_v17
  let main_v19 : FVec F S1x1024 .f32 := broadcastInDim S1x1024 ![1] bcast_S1024_S1x1024_1 main_arg3
  fn_part1 (F := F) main_arg4 main_arg5 main_arg6 main_arg7 main_arg8 main_arg9 main_arg10 main_v18 main_v19
-- ==== Kernel.lean ====
abbrev S1024x16x2048 : Shape := ⟨3, ![1024, 16, 2048]⟩
abbrev S1024x2048 : Shape := ⟨2, ![1024, 2048]⟩
abbrev S1024 : Shape := ⟨1, ![1024]⟩
abbrev S512x1024 : Shape := ⟨2, ![512, 1024]⟩
abbrev S512 : Shape := ⟨1, ![512]⟩
abbrev S128x512 : Shape := ⟨2, ![128, 512]⟩
abbrev S128 : Shape := ⟨1, ![128]⟩
abbrev S100000x128 : Shape := ⟨2, ![100000, 128]⟩
abbrev S1024x1x2048 : Shape := ⟨3, ![1024, 1, 2048]⟩
abbrev S1x1024 : Shape := ⟨2, ![1, 1024]⟩
abbrev S1x512 : Shape := ⟨2, ![1, 512]⟩
abbrev S1x128 : Shape := ⟨2, ![1, 128]⟩
abbrev S5000x128 : Shape := ⟨2, ![5000, 128]⟩
abbrev S1024x128 : Shape := ⟨2, ![1024, 128]⟩
abbrev S1024x1024 : Shape := ⟨2, ![1024, 1024]⟩
abbrev S1024x1 : Shape := ⟨2, ![1024, 1]⟩
abbrev S1024x512 : Shape := ⟨2, ![1024, 512]⟩
abbrev S5000 : Shape := ⟨1, ![5000]⟩
abbrev S5000x1 : Shape := ⟨2, ![5000, 1]⟩
abbrev S5000x1024 : Shape := ⟨2, ![5000, 1024]⟩
abbrev S625x8x1024 : Shape := ⟨3, ![625, 8, 1024]⟩
abbrev S1x8x1024 : Shape := ⟨3, ![1, 8, 1024]⟩
abbrev S8x1024 : Shape := ⟨2, ![8, 1024]⟩

abbrev nBuf : Space → Nat
  | .hbm => 23
  | .vmem => 17
  | .smem => 0
  | _ => 0

abbrev bufTy : (tb : Table) → Fin (tcTables nBuf tb) → BufTy
  | .hbm, ⟨0, _⟩ => ⟨S1024x16x2048, .f32⟩
  | .hbm, ⟨1, _⟩ => ⟨S1024x2048, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S512x1024, .f32⟩
  | .hbm, ⟨6, _⟩ => ⟨S512, .f32⟩
  | .hbm, ⟨7, _⟩ => ⟨S512, .f32⟩
  | .hbm, ⟨8, _⟩ => ⟨S512, .f32⟩
  | .hbm, ⟨9, _⟩ => ⟨S128x512, .f32⟩
  | .hbm, ⟨10, _⟩ => ⟨S128, .f32⟩
  | .hbm, ⟨11, _⟩ => ⟨S100000x128, .f32⟩
  | .hbm, ⟨12, _⟩ => ⟨S1024x1x2048, .f32⟩
  | .hbm, ⟨13, _⟩ => ⟨S1024x2048, .f32⟩
  | .hbm, ⟨14, _⟩ => ⟨S1x1024, .f32⟩
  | .hbm, ⟨15, _⟩ => ⟨S1x1024, .f32⟩
  | .hbm, ⟨16, _⟩ => ⟨S1x1024, .f32⟩
  | .hbm, ⟨17, _⟩ => ⟨S1x512, .f32⟩
  | .hbm, ⟨18, _⟩ => ⟨S1x512, .f32⟩
  | .hbm, ⟨19, _⟩ => ⟨S1x512, .f32⟩
  | .hbm, ⟨20, _⟩ => ⟨S1x128, .f32⟩
  | .hbm, ⟨21, _⟩ => ⟨S1x1024, .f32⟩
  | .hbm, ⟨22, _⟩ => ⟨S1x1024, .i32⟩
  | .local _ .vmem, ⟨0, _⟩ => ⟨S1024x2048, .f32⟩
  | .local _ .vmem, ⟨1, _⟩ => ⟨S1024x2048, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S512x1024, .f32⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S128x512, .f32⟩
  | .local _ .vmem, ⟨10, _⟩ => ⟨S1x128, .f32⟩
  | .local _ .vmem, ⟨11, _⟩ => ⟨S5000x128, .f32⟩
  | .local _ .vmem, ⟨12, _⟩ => ⟨S5000x128, .f32⟩
  | .local _ .vmem, ⟨13, _⟩ => ⟨S1x1024, .f32⟩
  | .local _ .vmem, ⟨14, _⟩ => ⟨S1x1024, .i32⟩
  | .local _ .vmem, ⟨15, _⟩ => ⟨S1024x128, .f32⟩
  | .local _ .vmem, ⟨16, _⟩ => ⟨S1x1024, .f32⟩
  | _, _ => ⟨S1024x16x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9_0 : Ref sig .tc := ⟨.hbm, 21, rfl⟩
abbrev main_v9_1 : Ref sig .tc := ⟨.hbm, 22, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg11_1 : Ref sig .tc := ⟨.vmem, 12, rfl⟩
abbrev cc0_stg12_0 : Ref sig .tc := ⟨.vmem, 13, rfl⟩
abbrev cc0_stg13_0 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem11_1 : DmaSem sig := 12
abbrev cc0_sem12_0 : DmaSem sig := 13
abbrev cc0_sem13_0 : DmaSem sig := 14

abbrev nD : Nat := 1
abbrev τ : Topo := Topo.v7x

variable {F : FTy → Type} [FloatOps F]

abbrev grid0 : Pipeline.Grid := ⟨1, ![20], ![false]⟩

def k0_cond2 (i : grid0.Coords) : BitVec 1 :=
  let arg0 : BitVec 32 := BitVec.ofNat 32 (i 0).val
  let c0_i32_12 : BitVec 32 := 0#32
  let v3779 : BitVec 1 := Scalar.cmpi .eq arg0 c0_i32_12
  let v3780 : BitVec 32 := Scalar.extui v3779
  let c0_i32_13 : BitVec 32 := 0#32
  let v3781 : BitVec 1 := Scalar.cmpi .ne v3780 c0_i32_13
  v3781

def k0_cond3 (i : grid0.Coords) : BitVec 1 :=
  let arg0 : BitVec 32 := BitVec.ofNat 32 (i 0).val
  let c0_i32_14 : BitVec 32 := 0#32
  let v3782 : BitVec 1 := Scalar.cmpi .sgt arg0 c0_i32_14
  let v3783 : BitVec 32 := Scalar.extui v3782
  let c0_i32_15 : BitVec 32 := 0#32
  let v3784 : BitVec 1 := Scalar.cmpi .ne v3783 c0_i32_15
  v3784

def k0_cond4 (i : grid0.Coords) : BitVec 1 :=
  let arg0 : BitVec 32 := BitVec.ofNat 32 (i 0).val
  let c19_i32_16 : BitVec 32 := 19#32
  let v3785 : BitVec 1 := Scalar.cmpi .eq arg0 c19_i32_16
  let v3786 : BitVec 32 := Scalar.extui v3785
  let c0_i32_17 : BitVec 32 := 0#32
  let v3787 : BitVec 1 := Scalar.cmpi .ne v3786 c0_i32_17
  v3787

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1024x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1024x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S5000x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .i32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== KernelIdeal.lean ====
variable {F : FTy → Type} [FloatOps F] [Named F]
def κ : String → Option EReal := fun
  | "rsqrt2" => some (((Real.sqrt 2)⁻¹ : ℝ) : EReal)
  | _ => none
-- ==== ReferenceIdeal.lean ====
abbrev S1024x16x2048 : Shape := ⟨3, ![1024, 16, 2048]⟩
abbrev S1024x2048 : Shape := ⟨2, ![1024, 2048]⟩
abbrev S1024 : Shape := ⟨1, ![1024]⟩
abbrev S512x1024 : Shape := ⟨2, ![512, 1024]⟩
abbrev S512 : Shape := ⟨1, ![512]⟩
abbrev S128x512 : Shape := ⟨2, ![128, 512]⟩
abbrev S128 : Shape := ⟨1, ![128]⟩
abbrev S100000x128 : Shape := ⟨2, ![100000, 128]⟩
abbrev S1024x1x2048 : Shape := ⟨3, ![1024, 1, 2048]⟩
abbrev S2048x1024 : Shape := ⟨2, ![2048, 1024]⟩
abbrev S1024x1024 : Shape := ⟨2, ![1024, 1024]⟩
abbrev S1x1024 : Shape := ⟨2, ![1, 1024]⟩
abbrev S_ : Shape := ⟨0, ![]⟩
abbrev S1024x1 : Shape := ⟨2, ![1024, 1]⟩
abbrev S1024x512 : Shape := ⟨2, ![1024, 512]⟩
abbrev S1x512 : Shape := ⟨2, ![1, 512]⟩
abbrev S512x128 : Shape := ⟨2, ![512, 128]⟩
abbrev S1024x128 : Shape := ⟨2, ![1024, 128]⟩
abbrev S1x128 : Shape := ⟨2, ![1, 128]⟩
abbrev S100000 : Shape := ⟨1, ![100000]⟩
abbrev S100000x1 : Shape := ⟨2, ![100000, 1]⟩
abbrev S128x100000 : Shape := ⟨2, ![128, 100000]⟩
abbrev S1024x100000 : Shape := ⟨2, ![1024, 100000]⟩
abbrev S1x100000 : Shape := ⟨2, ![1, 100000]⟩

abbrev nBuf : Space → Nat
  | .hbm => 180
  | .vmem => 0
  | .smem => 0
  | _ => 0

abbrev hbmTy0_0 (i : Nat) : BufTy := match i % 128 with
  | 0 => ⟨S1024x16x2048, .f32⟩
  | 1 => ⟨S1024x2048, .f32⟩
  | 2 => ⟨S1024, .f32⟩
  | 3 => ⟨S1024, .f32⟩
  | 4 => ⟨S1024, .f32⟩
  | 5 => ⟨S512x1024, .f32⟩
  | 6 => ⟨S512, .f32⟩
  | 7 => ⟨S512, .f32⟩
  | 8 => ⟨S512, .f32⟩
  | 9 => ⟨S128x512, .f32⟩
  | 10 => ⟨S128, .f32⟩
  | 11 => ⟨S100000x128, .f32⟩
  | 12 => ⟨S1024x1x2048, .f32⟩
  | 13 => ⟨S1024x2048, .f32⟩
  | 14 => ⟨S2048x1024, .f32⟩
  | 15 => ⟨S1024x1024, .f32⟩
  | 16 => ⟨S1x1024, .f32⟩
  | 17 => ⟨S1024x1024, .f32⟩
  | 18 => ⟨S1024x1024, .f32⟩
  | 19 => ⟨S_, .f32⟩
  | 20 => ⟨S1024, .f32⟩
  | 21 => ⟨S1024x1, .f32⟩
  | 22 => ⟨S_, .f32⟩
  | 23 => ⟨S1024x1, .f32⟩
  | 24 => ⟨S1024x1, .f32⟩
  | 25 => ⟨S_, .i32⟩
  | 26 => ⟨S_, .f32⟩
  | 27 => ⟨S1024, .f32⟩
  | 28 => ⟨S1024x1, .f32⟩
  | 29 => ⟨S_, .f32⟩
  | 30 => ⟨S1024x1, .f32⟩
  | 31 => ⟨S1024x1, .f32⟩
  | 32 => ⟨S1024x1024, .f32⟩
  | 33 => ⟨S1024x1024, .f32⟩
  | 34 => ⟨S1024x1024, .f32⟩
  | 35 => ⟨S_, .f32⟩
  | 36 => ⟨S_, .f32⟩
  | 37 => ⟨S_, .f32⟩
  | 38 => ⟨S_, .f32⟩
  | 39 => ⟨S1024, .f32⟩
  | 40 => ⟨S1024x1, .f32⟩
  | 41 => ⟨S1024x1, .f32⟩
  | 42 => ⟨S1024x1, .f32⟩
  | 43 => ⟨S_, .f32⟩
  | 44 => ⟨S_, .i1⟩
  | 45 => ⟨S_, .f32⟩
  | 46 => ⟨S_, .f32⟩
  | 47 => ⟨S1024x1, .f32⟩
  | 48 => ⟨S1024x1, .f32⟩
  | 49 => ⟨S1024x1024, .f32⟩
  | 50 => ⟨S1024x1024, .f32⟩
  | 51 => ⟨S_, .f32⟩
  | 52 => ⟨S1024x1, .f32⟩
  | 53 => ⟨S1024x1, .f32⟩
  | 54 => ⟨S1024x1, .f32⟩
  | 55 => ⟨S1024x1024, .f32⟩
  | 56 => ⟨S1024x1024, .f32⟩
  | 57 => ⟨S1x1024, .f32⟩
  | 58 => ⟨S1024x1024, .f32⟩
  | 59 => ⟨S1024x1024, .f32⟩
  | 60 => ⟨S1x1024, .f32⟩
  | 61 => ⟨S1024x1024, .f32⟩
  | 62 => ⟨S1024x1024, .f32⟩
  | 63 => ⟨S_, .f32⟩
  | 64 => ⟨S_, .f32⟩
  | 65 => ⟨S1024x1024, .f32⟩
  | 66 => ⟨S1024x1024, .f32⟩
  | 67 => ⟨S1024x1024, .f32⟩
  | 68 => ⟨S_, .f32⟩
  | 69 => ⟨S1024x1024, .f32⟩
  | 70 => ⟨S1024x1024, .f32⟩
  | 71 => ⟨S1024x1024, .f32⟩
  | 72 => ⟨S_, .f32⟩
  | 73 => ⟨S1024x1024, .f32⟩
  | 74 => ⟨S1024x1024, .f32⟩
  | 75 => ⟨S1024x512, .f32⟩
  | 76 => ⟨S1024x512, .f32⟩
  | 77 => ⟨S1x512, .f32⟩
  | 78 => ⟨S1024x512, .f32⟩
  | 79 => ⟨S1024x512, .f32⟩
  | 80 => ⟨S_, .f32⟩
  | 81 => ⟨S1024, .f32⟩
  | 82 => ⟨S1024x1, .f32⟩
  | 83 => ⟨S_, .f32⟩
  | 84 => ⟨S1024x1, .f32⟩
  | 85 => ⟨S1024x1, .f32⟩
  | 86 => ⟨S_, .i32⟩
  | 87 => ⟨S_, .f32⟩
  | 88 => ⟨S1024, .f32⟩
  | 89 => ⟨S1024x1, .f32⟩
  | 90 => ⟨S_, .f32⟩
  | 91 => ⟨S1024x1, .f32⟩
  | 92 => ⟨S1024x1, .f32⟩
  | 93 => ⟨S1024x512, .f32⟩
  | 94 => ⟨S1024x512, .f32⟩
  | 95 => ⟨S1024x512, .f32⟩
  | 96 => ⟨S_, .f32⟩
  | 97 => ⟨S_, .f32⟩
  | 98 => ⟨S_, .f32⟩
  | 99 => ⟨S_, .f32⟩
  | 100 => ⟨S1024, .f32⟩
  | 101 => ⟨S1024x1, .f32⟩
  | 102 => ⟨S1024x1, .f32⟩
  | 103 => ⟨S1024x1, .f32⟩
  | 104 => ⟨S_, .f32⟩
  | 105 => ⟨S_, .i1⟩
  | 106 => ⟨S_, .f32⟩
  | 107 => ⟨S_, .f32⟩
  | 108 => ⟨S1024x1, .f32⟩
  | 109 => ⟨S1024x1, .f32⟩
  | 110 => ⟨S1024x512, .f32⟩
  | 111 => ⟨S1024x512, .f32⟩
  | 112 => ⟨S_, .f32⟩
  | 113 => ⟨S1024x1, .f32⟩
  | 114 => ⟨S1024x1, .f32⟩
  | 115 => ⟨S1024x1, .f32⟩
  | 116 => ⟨S1024x512, .f32⟩
  | 117 => ⟨S1024x512, .f32⟩
  | 118 => ⟨S1x512, .f32⟩
  | 119 => ⟨S1024x512, .f32⟩
  | 120 => ⟨S1024x512, .f32⟩
  | 121 => ⟨S1x512, .f32⟩
  | 122 => ⟨S1024x512, .f32⟩
  | 123 => ⟨S1024x512, .f32⟩
  | 124 => ⟨S_, .f32⟩
  | 125 => ⟨S_, .f32⟩
  | 126 => ⟨S1024x512, .f32⟩
  | 127 => ⟨S1024x512, .f32⟩
  | _ => ⟨S1024x16x2048, .f32⟩

abbrev hbmTy0_1 (i : Nat) : BufTy := match i % 128 with
  | 0 => ⟨S1024x512, .f32⟩
  | 1 => ⟨S_, .f32⟩
  | 2 => ⟨S1024x512, .f32⟩
  | 3 => ⟨S1024x512, .f32⟩
  | 4 => ⟨S1024x512, .f32⟩
  | 5 => ⟨S_, .f32⟩
  | 6 => ⟨S1024x512, .f32⟩
  | 7 => ⟨S1024x512, .f32⟩
  | 8 => ⟨S512x128, .f32⟩
  | 9 => ⟨S1024x128, .f32⟩
  | 10 => ⟨S1x128, .f32⟩
  | 11 => ⟨S1024x128, .f32⟩
  | 12 => ⟨S1024x128, .f32⟩
  | 13 => ⟨S1024x128, .f32⟩
  | 14 => ⟨S_, .f32⟩
  | 15 => ⟨S1024, .f32⟩
  | 16 => ⟨S1024x1, .f32⟩
  | 17 => ⟨S1024x1, .f32⟩
  | 18 => ⟨S_, .f32⟩
  | 19 => ⟨S1024x1, .f32⟩
  | 20 => ⟨S1024x1, .f32⟩
  | 21 => ⟨S1024x128, .f32⟩
  | 22 => ⟨S1024x128, .f32⟩
  | 23 => ⟨S100000x128, .f32⟩
  | 24 => ⟨S_, .f32⟩
  | 25 => ⟨S100000, .f32⟩
  | 26 => ⟨S100000x1, .f32⟩
  | 27 => ⟨S100000x1, .f32⟩
  | 28 => ⟨S128x100000, .f32⟩
  | 29 => ⟨S1024x100000, .f32⟩
  | 30 => ⟨S1024x128, .f32⟩
  | 31 => ⟨S_, .f32⟩
  | 32 => ⟨S1024, .f32⟩
  | 33 => ⟨S1024x1, .f32⟩
  | 34 => ⟨S1024x1, .f32⟩
  | 35 => ⟨S1x100000, .f32⟩
  | 36 => ⟨S1024x100000, .f32⟩
  | 37 => ⟨S1024x100000, .f32⟩
  | 38 => ⟨S1024x100000, .f32⟩
  | 39 => ⟨S_, .f32⟩
  | 40 => ⟨S1024x100000, .f32⟩
  | 41 => ⟨S1024x100000, .f32⟩
  | 42 => ⟨S1024x100000, .f32⟩
  | 43 => ⟨S_, .f32⟩
  | 44 => ⟨S1024, .f32⟩
  | 45 => ⟨S1024x100000, .i32⟩
  | 46 => ⟨S_, .f32⟩
  | 47 => ⟨S_, .i32⟩
  | 48 => ⟨S1024, .f32⟩
  | 49 => ⟨S1024, .i32⟩
  | 50 => ⟨S1x1024, .f32⟩
  | 51 => ⟨S1x1024, .i32⟩
  | _ => ⟨S1024x16x2048, .f32⟩

abbrev hbmTy (i : Nat) : BufTy := match i / 128 with
  | 0 => hbmTy0_0 i
  | 1 => hbmTy0_1 i
  | _ => ⟨S1024x16x2048, .f32⟩

abbrev bufTy : (tb : Table) → Fin (tcTables nBuf tb) → BufTy
  | .hbm, ⟨i, _⟩ => hbmTy i
  | _, _ => ⟨S1024x16x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_v8 : Ref sig .tc := ⟨.hbm, 21, rfl⟩
abbrev main_cst_0 : Ref sig .tc := ⟨.hbm, 22, rfl⟩
abbrev main_v9 : Ref sig .tc := ⟨.hbm, 23, rfl⟩
abbrev main_v10 : Ref sig .tc := ⟨.hbm, 24, rfl⟩
abbrev main_c : Ref sig .tc := ⟨.hbm, 25, rfl⟩
abbrev main_call0_cst : Ref sig .tc := ⟨.hbm, 26, rfl⟩
abbrev main_call0_v0 : Ref sig .tc := ⟨.hbm, 27, rfl⟩
abbrev main_call0_v1 : Ref sig .tc := ⟨.hbm, 28, rfl⟩
abbrev main_call0_cst_0 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_call0_v5 : Ref sig .tc := ⟨.hbm, 33, rfl⟩
abbrev main_call0_v6 : Ref sig .tc := ⟨.hbm, 34, rfl⟩
abbrev main_call0_v7 : Ref sig .tc := ⟨.hbm, 35, rfl⟩
abbrev main_call0_cst_1 : Ref sig .tc := ⟨.hbm, 36, rfl⟩
abbrev main_call0_v8 : Ref sig .tc := ⟨.hbm, 37, rfl⟩
abbrev main_call0_cst_2 : Ref sig .tc := ⟨.hbm, 38, rfl⟩
abbrev main_call0_v9 : Ref sig .tc := ⟨.hbm, 39, rfl⟩
abbrev main_call0_v10 : Ref sig .tc := ⟨.hbm, 40, rfl⟩
abbrev main_call0_v11 : Ref sig .tc := ⟨.hbm, 41, rfl⟩
abbrev main_call0_v12 : Ref sig .tc := ⟨.hbm, 42, rfl⟩
abbrev main_call0_cst_3 : Ref sig .tc := ⟨.hbm, 43, rfl⟩
abbrev main_call0_v13 : Ref sig .tc := ⟨.hbm, 44, rfl⟩
abbrev main_call0_cst_4 : Ref sig .tc := ⟨.hbm, 45, rfl⟩
abbrev main_call0_call0_v0 : Ref sig .tc := ⟨.hbm, 46, rfl⟩
abbrev main_call0_call0_v1 : Ref sig .tc := ⟨.hbm, 47, rfl⟩
abbrev main_v11 : Ref sig .tc := ⟨.hbm, 48, rfl⟩
abbrev main_v12 : Ref sig .tc := ⟨.hbm, 49, rfl⟩
abbrev main_v13 : Ref sig .tc := ⟨.hbm, 50, rfl⟩
abbrev main_cst_1 : Ref sig .tc := ⟨.hbm, 51, rfl⟩
abbrev main_v14 : Ref sig .tc := ⟨.hbm, 52, rfl⟩
abbrev main_v15 : Ref sig .tc := ⟨.hbm, 53, rfl⟩
abbrev main_v16 : Ref sig .tc := ⟨.hbm, 54, rfl⟩
abbrev main_v17 : Ref sig .tc := ⟨.hbm, 55, rfl⟩
abbrev main_v18 : Ref sig .tc := ⟨.hbm, 56, rfl⟩
abbrev main_v19 : Ref sig .tc := ⟨.hbm, 57, rfl⟩
abbrev main_v20 : Ref sig .tc := ⟨.hbm, 58, rfl⟩
abbrev main_v21 : Ref sig .tc := ⟨.hbm, 59, rfl⟩
abbrev main_v22 : Ref sig .tc := ⟨.hbm, 60, rfl⟩
abbrev main_v23 : Ref sig .tc := ⟨.hbm, 61, rfl⟩
abbrev main_v24 : Ref sig .tc := ⟨.hbm, 62, rfl⟩
abbrev main_cst_2 : Ref sig .tc := ⟨.hbm, 63, rfl⟩
abbrev main_v25 : Ref sig .tc := ⟨.hbm, 64, rfl⟩
abbrev main_v26 : Ref sig .tc := ⟨.hbm, 65, rfl⟩
abbrev main_v27 : Ref sig .tc := ⟨.hbm, 66, rfl⟩
abbrev main_v28 : Ref sig .tc := ⟨.hbm, 67, rfl⟩
abbrev main_cst_3 : Ref sig .tc := ⟨.hbm, 68, rfl⟩
abbrev main_v29 : Ref sig .tc := ⟨.hbm, 69, rfl⟩
abbrev main_v30 : Ref sig .tc := ⟨.hbm, 70, rfl⟩
abbrev main_v31 : Ref sig .tc := ⟨.hbm, 71, rfl⟩
abbrev main_cst_4 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_v38 : Ref sig .tc := ⟨.hbm, 79, rfl⟩
abbrev main_cst_5 : Ref sig .tc := ⟨.hbm, 80, rfl⟩
abbrev main_v39 : Ref sig .tc := ⟨.hbm, 81, rfl⟩
abbrev main_v40 : Ref sig .tc := ⟨.hbm, 82, rfl⟩
abbrev main_cst_6 : Ref sig .tc := ⟨.hbm, 83, rfl⟩
abbrev main_v41 : Ref sig .tc := ⟨.hbm, 84, rfl⟩
abbrev main_v42 : Ref sig .tc := ⟨.hbm, 85, rfl⟩
abbrev main_c_7 : Ref sig .tc := ⟨.hbm, 86, rfl⟩
abbrev main_call1_cst : Ref sig .tc := ⟨.hbm, 87, rfl⟩
abbrev main_call1_v0 : Ref sig .tc := ⟨.hbm, 88, rfl⟩
abbrev main_call1_v1 : Ref sig .tc := ⟨.hbm, 89, rfl⟩
abbrev main_call1_cst_0 : Ref sig .tc := ⟨.hbm, 90, rfl⟩
abbrev main_call1_v2 : Ref sig .tc := ⟨.hbm, 91, rfl⟩
abbrev main_call1_v3 : Ref sig .tc := ⟨.hbm, 92, rfl⟩
abbrev main_call1_v4 : Ref sig .tc := ⟨.hbm, 93, rfl⟩
abbrev main_call1_v5 : Ref sig .tc := ⟨.hbm, 94, rfl⟩
abbrev main_call1_v6 : Ref sig .tc := ⟨.hbm, 95, rfl⟩
abbrev main_call1_v7 : Ref sig .tc := ⟨.hbm, 96, rfl⟩
abbrev main_call1_cst_1 : Ref sig .tc := ⟨.hbm, 97, rfl⟩
abbrev main_call1_v8 : Ref sig .tc := ⟨.hbm, 98, rfl⟩
abbrev main_call1_cst_2 : Ref sig .tc := ⟨.hbm, 99, rfl⟩
abbrev main_call1_v9 : Ref sig .tc := ⟨.hbm, 100, rfl⟩
abbrev main_call1_v10 : Ref sig .tc := ⟨.hbm, 101, rfl⟩
abbrev main_call1_v11 : Ref sig .tc := ⟨.hbm, 102, rfl⟩
abbrev main_call1_v12 : Ref sig .tc := ⟨.hbm, 103, rfl⟩
abbrev main_call1_cst_3 : Ref sig .tc := ⟨.hbm, 104, rfl⟩
abbrev main_call1_v13 : Ref sig .tc := ⟨.hbm, 105, rfl⟩
abbrev main_call1_cst_4 : Ref sig .tc := ⟨.hbm, 106, rfl⟩
abbrev main_call1_call0_v0 : Ref sig .tc := ⟨.hbm, 107, rfl⟩
abbrev main_call1_call0_v1 : Ref sig .tc := ⟨.hbm, 108, rfl⟩
abbrev main_v43 : Ref sig .tc := ⟨.hbm, 109, rfl⟩
abbrev main_v44 : Ref sig .tc := ⟨.hbm, 110, rfl⟩
abbrev main_v45 : Ref sig .tc := ⟨.hbm, 111, rfl⟩
abbrev main_cst_8 : Ref sig .tc := ⟨.hbm, 112, rfl⟩
abbrev main_v46 : Ref sig .tc := ⟨.hbm, 113, rfl⟩
abbrev main_v47 : Ref sig .tc := ⟨.hbm, 114, rfl⟩
abbrev main_v48 : Ref sig .tc := ⟨.hbm, 115, rfl⟩
abbrev main_v49 : Ref sig .tc := ⟨.hbm, 116, rfl⟩
abbrev main_v50 : Ref sig .tc := ⟨.hbm, 117, rfl⟩
abbrev main_v51 : Ref sig .tc := ⟨.hbm, 118, rfl⟩
abbrev main_v52 : Ref sig .tc := ⟨.hbm, 119, rfl⟩
abbrev main_v53 : Ref sig .tc := ⟨.hbm, 120, rfl⟩
abbrev main_v54 : Ref sig .tc := ⟨.hbm, 121, rfl⟩
abbrev main_v55 : Ref sig .tc := ⟨.hbm, 122, rfl⟩
abbrev main_v56 : Ref sig .tc := ⟨.hbm, 123, rfl⟩
abbrev main_cst_9 : Ref sig .tc := ⟨.hbm, 124, rfl⟩
abbrev main_v57 : Ref sig .tc := ⟨.hbm, 125, rfl⟩
abbrev main_v58 : Ref sig .tc := ⟨.hbm, 126, rfl⟩
abbrev main_v59 : Ref sig .tc := ⟨.hbm, 127, rfl⟩
abbrev main_v60 : Ref sig .tc := ⟨.hbm, 128, rfl⟩
abbrev main_cst_10 : Ref sig .tc := ⟨.hbm, 129, rfl⟩
abbrev main_v61 : Ref sig .tc := ⟨.hbm, 130, rfl⟩
abbrev main_v62 : Ref sig .tc := ⟨.hbm, 131, rfl⟩
abbrev main_v63 : Ref sig .tc := ⟨.hbm, 132, rfl⟩
abbrev main_cst_11 : Ref sig .tc := ⟨.hbm, 133, rfl⟩
abbrev main_v64 : Ref sig .tc := ⟨.hbm, 134, rfl⟩
abbrev main_v65 : Ref sig .tc := ⟨.hbm, 135, rfl⟩
abbrev main_v66 : Ref sig .tc := ⟨.hbm, 136, rfl⟩
abbrev main_v67 : Ref sig .tc := ⟨.hbm, 137, rfl⟩
abbrev main_v68 : Ref sig .tc := ⟨.hbm, 138, rfl⟩
abbrev main_v69 : Ref sig .tc := ⟨.hbm, 139, rfl⟩
abbrev main_v70 : Ref sig .tc := ⟨.hbm, 140, rfl⟩
abbrev main_call2_v0 : Ref sig .tc := ⟨.hbm, 141, rfl⟩
abbrev main_call2_cst : Ref sig .tc := ⟨.hbm, 142, rfl⟩
abbrev main_call2_v1 : Ref sig .tc := ⟨.hbm, 143, rfl⟩
abbrev main_call2_v2 : Ref sig .tc := ⟨.hbm, 144, rfl⟩
abbrev main_v71 : Ref sig .tc := ⟨.hbm, 145, rfl⟩
abbrev main_cst_12 : Ref sig .tc := ⟨.hbm, 146, rfl⟩
abbrev main_v72 : Ref sig .tc := ⟨.hbm, 147, rfl⟩
abbrev main_v73 : Ref sig .tc := ⟨.hbm, 148, rfl⟩
abbrev main_v74 : Ref sig .tc := ⟨.hbm, 149, rfl⟩
abbrev main_v75 : Ref sig .tc := ⟨.hbm, 150, rfl⟩
abbrev main_call3_v0 : Ref sig .tc := ⟨.hbm, 151, rfl⟩
abbrev main_call3_cst : Ref sig .tc := ⟨.hbm, 152, rfl⟩
abbrev main_call3_v1 : Ref sig .tc := ⟨.hbm, 153, rfl⟩
abbrev main_call3_v2 : Ref sig .tc := ⟨.hbm, 154, rfl⟩
abbrev main_v76 : Ref sig .tc := ⟨.hbm, 155, rfl⟩
abbrev main_v77 : Ref sig .tc := ⟨.hbm, 156, rfl⟩
abbrev main_v78 : Ref sig .tc := ⟨.hbm, 157, rfl⟩
abbrev main_call4_v0 : Ref sig .tc := ⟨.hbm, 158, rfl⟩
abbrev main_call4_cst : Ref sig .tc := ⟨.hbm, 159, rfl⟩
abbrev main_call4_v1 : Ref sig .tc := ⟨.hbm, 160, rfl⟩
abbrev main_call4_v2 : Ref sig .tc := ⟨.hbm, 161, rfl⟩
abbrev main_v79 : Ref sig .tc := ⟨.hbm, 162, rfl⟩
abbrev main_v80 : Ref sig .tc := ⟨.hbm, 163, rfl⟩
abbrev main_v81 : Ref sig .tc := ⟨.hbm, 164, rfl⟩
abbrev main_v82 : Ref sig .tc := ⟨.hbm, 165, rfl⟩
abbrev main_v83 : Ref sig .tc := ⟨.hbm, 166, rfl⟩
abbrev main_cst_13 : Ref sig .tc := ⟨.hbm, 167, rfl⟩
abbrev main_v84 : Ref sig .tc := ⟨.hbm, 168, rfl⟩
abbrev main_v85 : Ref sig .tc := ⟨.hbm, 169, rfl⟩
abbrev main_v86 : Ref sig .tc := ⟨.hbm, 170, rfl⟩
abbrev main_cst_14 : Ref sig .tc := ⟨.hbm, 171, rfl⟩
abbrev main_v87 : Ref sig .tc := ⟨.hbm, 172, rfl⟩
abbrev main_call5_v0 : Ref sig .tc := ⟨.hbm, 173, rfl⟩
abbrev main_call5_cst : Ref sig .tc := ⟨.hbm, 174, rfl⟩
abbrev main_call5_c : Ref sig .tc := ⟨.hbm, 175, rfl⟩
abbrev main_call5_v1_0 : Ref sig .tc := ⟨.hbm, 176, rfl⟩
abbrev main_v88 : Ref sig .tc := ⟨.hbm, 177, rfl⟩
abbrev main_v89 : Ref sig .tc := ⟨.hbm, 178, rfl⟩
abbrev main_v90 : Ref sig .tc := ⟨.hbm, 179, rfl⟩

abbrev nD : Nat := 1
abbrev τ : Topo := Topo.v7x

variable {F : FTy → Type} [FloatOps F]
-- ==== Proof.Slab.lean ====
/-
  The scan inside one block of memory rows. A block of 5000 rows is looked at as 625 slabs of 8 rows; the body keeps,
  per sublane and column, the greatest similarity met so far and the number of the last slab that raised it. The body
  writes the scan out as a straight line of 624 steps. Here one step is stated once, as a recursion on the number of
  slabs, and the straight line is folded back to it.
-/
module

public import proofs.«01_k».proof.Proof.Gen.KernelIdeal.Skeleton
public import Idealize.ShloMosaic.Lib.Pointwise

@[expose] public section

noncomputable section

namespace Cert.KernelIdeal.Slab

open Cert.KernelIdeal Cert.KernelIdeal.Gen Idealize.ShloMosaic

/-- Slab `k` of a block cut into 625 slabs of 8 rows. -/
def slab {α : Type} (s : S625x8x1024.Idx → α) (k : ℕ) : S8x1024.Idx → α :=
  fun i => s (ix3 (Fin.ofNat 625 k) (i 0) (i 1))

/-- The running maximum over slabs `0 … k`. -/
def runMax (s : FVec Ideal S625x8x1024 .f32) : ℕ → FVec Ideal S8x1024 .f32
  | 0 => slab s 0
  | k + 1 => maximumf (runMax s k) (slab s (k + 1))

/-- The number of the last slab among `0 … k` that raised the running maximum. -/
def runArg (s : FVec Ideal S625x8x1024 .f32) : ℕ → IVec S8x1024 32
  | 0 => broadcast S8x1024 0#32
  | k + 1 => select (cmpf .ogt (slab s (k + 1)) (runMax s k)) (broadcast S8x1024 (BitVec.ofNat 32 (k + 1))) (runArg s k)

/-- Taking slab `k` out of the block, as the body writes it. -/
theorem slab_fold {α : Type} (s : S625x8x1024.Idx → α) (k : ℕ) (h : S625x8x1024.Slices ![k, 0, 0] S1x8x1024)
    (h' : S1x8x1024.ShapeCasts S8x1024) :
    shapeCast S8x1024 (extractStridedSlice S1x8x1024 ![k, 0, 0] s h) h' = slab s k := by
  have hk : k < 625 := by
    have := h.2 0
    simp [Shape.size] at this
    omega
  funext j
  idx_vars j
  pointwise [slab]
  congr 2
  apply Fin.ext
  simp [Fin.ofNat, Nat.mod_eq_of_lt hk]

/-- The first step's maximum. -/
theorem max_fold_zero (s : FVec Ideal S625x8x1024 .f32) : maximumf (slab s 0) (slab s 1) = runMax s 1 := rfl

/-- A later step's maximum. -/
theorem max_fold (s : FVec Ideal S625x8x1024 .f32) (k : ℕ) : maximumf (runMax s k) (slab s (k + 1)) = runMax s (k + 1) := rfl

/-- The first step's slab number. -/
theorem arg_fold_zero (s : FVec Ideal S625x8x1024 .f32) :
    select (cmpf .ogt (slab s 1) (slab s 0)) (broadcast S8x1024 1#32) (broadcast S8x1024 0#32) = runArg s 1 := rfl

/-- A later step's slab number. -/
theorem arg_fold (s : FVec Ideal S625x8x1024 .f32) (k : ℕ) :
    select (cmpf .ogt (slab s (k + 1)) (runMax s k)) (broadcast S8x1024 (BitVec.ofNat 32 (k + 1))) (runArg s k)
      = runArg s (k + 1) := rfl

end Cert.KernelIdeal.Slab

end
-- ==== Proof.Best.lean ====
/-
  The greatest entry of a finite list of extended reals together with the first place that attains it, and the ways
  the two programs find it: a scan from the left, eight interleaved scans put together, and blocks put together.
-/
module

public import Mathlib.Data.EReal.Basic
public import Mathlib.Data.Finset.Lattice.Fold
public import Mathlib.Tactic.IntervalCases

@[expose] public section

namespace Cert.Best

/-- Among `f 0, …, f (N - 1)` the greatest value is `T`, and `r` is the first place that has it. -/
structure Best (f : ℕ → EReal) (N : ℕ) (T : EReal) (r : ℕ) : Prop where
  lt : r < N
  eq : f r = T
  le : ∀ i, i < N → f i ≤ T
  first : ∀ i, i < r → f i < T

/-- The greatest value and its first place are determined. -/
theorem Best.unique {f : ℕ → EReal} {N : ℕ} {T T' : EReal} {r r' : ℕ} (h : Best f N T r) (h' : Best f N T' r') :
    T = T' ∧ r = r' := by
  have hT : T = T' := le_antisymm (h.eq ▸ h'.le r h.lt) (h'.eq ▸ h.le r' h'.lt)
  subst hT
  refine ⟨rfl, le_antisymm (not_lt.mp fun hl => ?_) (not_lt.mp fun hl => ?_)⟩
  · exact absurd h'.eq (h.first r' hl).ne
  · exact absurd h.eq (h'.first r hl).ne

/-- `Best` depends on the entries in range only. -/
theorem Best.congr {f g : ℕ → EReal} {N : ℕ} {T : EReal} {r : ℕ} (h : Best f N T r) (e : ∀ i, i < N → g i = f i) :
    Best g N T r :=
  ⟨h.lt, (e r h.lt).trans h.eq, fun i hi => (e i hi).symm ▸ h.le i hi,
    fun i hi => (e i (hi.trans h.lt)).symm ▸ h.first i hi⟩

/-- A list of one entry. -/
theorem Best.one (f : ℕ → EReal) : Best f 1 (f 0) 0 :=
  ⟨Nat.one_pos, rfl, fun i hi => by obtain rfl : i = 0 := by omega
                                    exact le_rfl, fun i hi => absurd hi (Nat.not_lt_zero _)⟩

/-- Two stretches put together: the later one wins only where it is strictly greater. -/
theorem Best.append {f : ℕ → EReal} {N L : ℕ} {T T' : EReal} {r r' : ℕ} (h : Best f N T r)
    (h' : Best (fun i => f (N + i)) L T' r') :
    Best f (N + L) (max T T') (if T < T' then N + r' else r) := by
  have hle : ∀ i, i < N + L → f i ≤ max T T' := fun i hi => by
    by_cases hN : i < N
    · exact (h.le i hN).trans (le_max_left _ _)
    · have := h'.le (i - N) (by omega)
      rw [show N + (i - N) = i by omega] at this
      exact this.trans (le_max_right _ _)
  have hl := h.lt
  have hl' := h'.lt
  split
  · rename_i hlt
    refine ⟨by omega, by rw [max_eq_right hlt.le]; exact h'.eq, hle, fun i hi => ?_⟩
    rw [max_eq_right hlt.le]
    by_cases hN : i < N
    · exact (h.le i hN).trans_lt hlt
    · have := h'.first (i - N) (by omega)
      rwa [show N + (i - N) = i by omega] at this
  · rename_i hlt
    rw [max_eq_left (not_lt.mp hlt)] at hle ⊢
    exact ⟨by omega, h.eq, hle, h.first⟩

/-- One more entry. -/
theorem Best.snoc {f : ℕ → EReal} {N : ℕ} {T : EReal} {r : ℕ} (h : Best f N T r) :
    Best f (N + 1) (max T (f N)) (if T < f N then N else r) :=
  h.append (Best.one fun i => f (N + i))

/-- Eight interleaved scans: with the greatest value of each residue class of places and its first place, the greatest
    of the eight, and the least of the first places among the classes that have it, are those of the whole. -/
theorem Best.interleave {f : ℕ → EReal} {K : ℕ} {M : Fin 8 → EReal} {A : Fin 8 → ℕ}
    (h : ∀ u : Fin 8, Best (fun k => f (k * 8 + u.val)) K (M u) (A u)) {T : EReal} (hT : ∀ u, M u ≤ T) (hT' : ∃ u, M u = T)
    {c : Fin 8 → ℕ} (hc : ∀ u, c u = if M u = T then A u * 8 + u.val else K * 8) {r : ℕ} (hr : ∀ u, r ≤ c u)
    (hr' : ∃ u, r = c u) : Best f (K * 8) T r := by
  obtain ⟨u₀, hu₀⟩ := hT'
  obtain ⟨u₁, hu₁⟩ := hr'
  have hlt : r < K * 8 := by
    have h1 := hr u₀
    rw [hc, if_pos hu₀] at h1
    have := (h u₀).lt
    omega
  have hM : M u₁ = T := by
    by_contra hne
    rw [hc, if_neg hne] at hu₁
    omega
  rw [hc, if_pos hM] at hu₁
  have hle : ∀ i, i < K * 8 → f i ≤ M ⟨i % 8, Nat.mod_lt _ (by decide)⟩ := fun i hi => by
    have := (h ⟨i % 8, Nat.mod_lt _ (by decide)⟩).le (i / 8) (by omega)
    simpa [Nat.div_add_mod'] using this
  refine ⟨hlt, ?_, fun i hi => (hle i hi).trans (hT _), fun i hi => ?_⟩
  · have := (h u₁).eq
    rw [hu₁]
    exact this.trans hM
  · refine lt_of_le_of_ne ((hle i (hi.trans hlt)).trans (hT _)) fun he => ?_
    have hMi : M ⟨i % 8, Nat.mod_lt _ (by decide)⟩ = T :=
      le_antisymm (hT _) (he ▸ hle i (hi.trans hlt))
    have h2 := hr ⟨i % 8, Nat.mod_lt _ (by decide)⟩
    rw [hc, if_pos hMi] at h2
    have h3 : ¬ i / 8 < A ⟨i % 8, Nat.mod_lt _ (by decide)⟩ := fun hl => by
      have := (h ⟨i % 8, Nat.mod_lt _ (by decide)⟩).first (i / 8) hl
      simp only [Nat.div_add_mod'] at this
      rw [hMi] at this
      exact absurd he this.ne
    simp only at h2
    omega

end Cert.Best
-- ==== Proof.Tile.lean ====
/-
  What the scan of one block of memory rows finds: per column, the block's greatest similarity and the first row that
  attains it.
-/
module

public import proofs.«01_k».proof.Proof.Slab
public import proofs.«01_k».proof.Proof.Best

@[expose] public section

noncomputable section

namespace Cert.KernelIdeal.Slab

open Cert.KernelIdeal Cert.KernelIdeal.Gen Idealize.ShloMosaic Cert.Best

/-- The column maxima of a block: the running maxima of the eight sublanes, reduced. -/
def tileMax (s : FVec Ideal S625x8x1024 .f32) : FVec Ideal S1x1024 .f32 :=
  shapeCast S1x1024 (multiReduction .maximumf [0] S1024 (runMax s 624) 0xFF800000#32 reduces_S8x1024_S1024 (.inl rfl) rfl)
    shapeCasts_S1024_S1x1024

/-- The first places of the column maxima of a block, counted from the first row of block `p`. -/
def tileArg (p : BitVec 32) (s : FVec Ideal S625x8x1024 .f32) : IVec S1x1024 32 :=
  addi
    (shapeCast S1x1024
      (multiReductionI .minsi [0] S1024
        (select (cmpf .oeq (runMax s 624) (broadcastTo S8x1024 (tileMax s) broadcasts_S1x1024_S8x1024))
          (addi (muli (runArg s 624) (broadcast S8x1024 8#32)) (iota .tc S8x1024 32 [0] iota_S8x1024_d0_w32))
          (broadcast S8x1024 5000#32))
        2147483647#32 reduces_S8x1024_S1024 rfl)
      shapeCasts_S1024_S1x1024)
    (broadcast S1x1024 (Scalar.muli p 5000#32))

/-- Column `b` of a block, its rows counted through the slabs. -/
def col (s : FVec Ideal S625x8x1024 .f32) (b : Fin 1024) (i : ℕ) : EReal :=
  s (ix3 (Fin.ofNat 625 (i / 8)) (Fin.ofNat 8 (i % 8)) b)

/-- The scan of one sublane: the running maximum is the greatest entry so far, the kept slab number its first place. -/
theorem scan_best (s : FVec Ideal S625x8x1024 .f32) (u : Fin 8) (b : Fin 1024) : ∀ k : ℕ, ∃ A : ℕ,
    Best (fun k => slab s k (ix2 u b)) (k + 1) (runMax s k (ix2 u b)) A ∧ runArg s k (ix2 u b) = BitVec.ofNat 32 A
  | 0 => ⟨0, Best.one _, rfl⟩
  | k + 1 => by
    obtain ⟨A, h, hA⟩ := scan_best s u b k
    refine ⟨_, h.snoc, ?_⟩
    show Scalar.select (FloatOps.cmpf .ogt (slab s (k + 1) (ix2 u b)) (runMax s k (ix2 u b))) (BitVec.ofNat 32 (k + 1)) (runArg s k (ix2 u b)) = _
    rw [hA, Ideal.cmpf_def]
    by_cases hlt : runMax s k (ix2 u b) < slab s (k + 1) (ix2 u b)
    · simp [Ideal.cmp, Scalar.select, hlt]
    · simp [Ideal.cmp, Scalar.select, hlt]

/-- The word of negative infinity. -/
theorem neg_inf : Ideal.ofBits .f32 0xFF800000#32 = ⊥ := by
  simp [Ideal.ofBits, Ideal.ieee]

/-- Signed comparison of words that hold small naturals. -/
theorem slt_small {a b : ℕ} (ha : a < 2147483648) (hb : b < 2147483648) :
    (BitVec.ofNat 32 a).slt (BitVec.ofNat 32 b) = decide (a < b) := by
  rw [BitVec.slt, BitVec.toInt_eq_toNat_of_lt, BitVec.toInt_eq_toNat_of_lt] <;> simp <;> omega

/-- The column maximum at a column. -/
theorem tileMax_apply (s : FVec Ideal S625x8x1024 .f32) (b : Fin 1024) :
    tileMax s (ix2 0 b) = Finset.univ.fold max ⊥ fun u : Fin 8 => runMax s 624 (ix2 u b) := by
  pointwise [tileMax]
  rw [neg_inf]

/-- A maximum folded from the least value bounds every entry and, over a nonempty range, is one of them. -/
theorem fold_max_spec {ι : Type} [DecidableEq ι] (S : Finset ι) (f : ι → EReal) :
    (∀ u ∈ S, f u ≤ S.fold max ⊥ f) ∧ (S.Nonempty → ∃ u ∈ S, f u = S.fold max ⊥ f) := by
  induction S using Finset.induction_on with
  | empty => simp
  | insert a S ha ih =>
    rw [Finset.fold_insert ha]
    refine ⟨fun u hu => ?_, fun _ => ?_⟩
    · rcases Finset.mem_insert.mp hu with rfl | hu
      · exact le_max_left _ _
      · exact (ih.1 u hu).trans (le_max_right _ _)
    · rcases le_total (S.fold max ⊥ f) (f a) with h | h
      · exact ⟨a, Finset.mem_insert_self _ _, (max_eq_left h).symm⟩
      · rcases S.eq_empty_or_nonempty with rfl | hS
        · exact ⟨a, Finset.mem_insert_self _ _, by simp⟩
        · obtain ⟨u, hu, e⟩ := ih.2 hS
          exact ⟨u, Finset.mem_insert_of_mem hu, by rw [max_eq_right h]; exact e⟩

/-- A signed minimum of words folded from the greatest word, the words holding small naturals: the word of a lower
    bound that is attained, or of the start. -/
theorem fold_minsi_spec {ι : Type} [DecidableEq ι] (S : Finset ι) (w : ι → BitVec 32) (c : ι → ℕ)
    (hc : ∀ u, c u < 2147483647) (hw : ∀ u, w u = BitVec.ofNat 32 (c u)) :
    ∃ r, S.fold IntOp.minsi 2147483647#32 w = BitVec.ofNat 32 r ∧ r ≤ 2147483647 ∧ (∀ u ∈ S, r ≤ c u) ∧
      (S.Nonempty → ∃ u ∈ S, r = c u) := by
  induction S using Finset.induction_on with
  | empty => exact ⟨2147483647, rfl, le_rfl, by simp, by simp⟩
  | insert a S ha ih =>
    obtain ⟨r, e, hr, hle, hex⟩ := ih
    have hca := hc a
    rw [Finset.fold_insert ha, e, hw a, IntOp.minsi, slt_small (by omega) (by omega)]
    by_cases h : c a < r
    · refine ⟨c a, by simp [h], by omega, fun u hu => ?_, fun _ => ⟨a, Finset.mem_insert_self _ _, rfl⟩⟩
      rcases Finset.mem_insert.mp hu with rfl | hu
      · exact le_rfl
      · exact h.le.trans (hle u hu)
    · refine ⟨r, by simp [h], hr, fun u hu => ?_, fun _ => ?_⟩
      · rcases Finset.mem_insert.mp hu with rfl | hu
        · exact not_lt.mp h
        · exact hle u hu
      · rcases S.eq_empty_or_nonempty with rfl | hS
        · have : r = 2147483647 := by
            have h2 : (2147483647#32 : BitVec 32) = BitVec.ofNat 32 r := by simpa using e
            have h3 := congrArg BitVec.toNat h2
            simp at h3
            omega
          omega
        · obtain ⟨u, hu, e'⟩ := hex hS
          exact ⟨u, Finset.mem_insert_of_mem hu, e'⟩

/-- The place found in a block, at a column. -/
theorem tileArg_apply (p : BitVec 32) (s : FVec Ideal S625x8x1024 .f32) (b : Fin 1024) :
    tileArg p s (ix2 0 b) = IntOp.addi (Finset.univ.fold IntOp.minsi 2147483647#32 fun u : Fin 8 =>
      if runMax s 624 (ix2 u b) = tileMax s (ix2 0 b)
        then IntOp.addi (IntOp.muli (runArg s 624 (ix2 u b)) 8#32) (BitVec.ofNat 32 u.val) else 5000#32)
      (Scalar.muli p 5000#32) := by
  pointwise! [tileArg]

/-- The place within block `p`, as a word. -/
theorem word_place (r p : ℕ) : IntOp.addi (BitVec.ofNat 32 r) (Scalar.muli (BitVec.ofNat 32 p) 5000#32)
    = BitVec.ofNat 32 (5000 * p + r) := by
  show BitVec.ofNat 32 r + BitVec.ofNat 32 p * BitVec.ofNat 32 5000 = _
  rw [← BitVec.ofNat_mul, ← BitVec.ofNat_add, Nat.add_comm, Nat.mul_comm p]

/-- Block `p` of the scan: the column maximum is the greatest entry of the column, and the place found is the first
    that attains it, counted from the first row of all. -/
theorem tile_best (p : ℕ) (s : FVec Ideal S625x8x1024 .f32) (b : Fin 1024) :
    ∃ r, Best (col s b) 5000 (tileMax s (ix2 0 b)) r ∧
      tileArg (BitVec.ofNat 32 p) s (ix2 0 b) = BitVec.ofNat 32 (5000 * p + r) := by
  choose A hA hA' using fun u : Fin 8 => scan_best s u b 624
  have hT := fold_max_spec Finset.univ fun u : Fin 8 => runMax s 624 (ix2 u b)
  rw [← tileMax_apply] at hT
  have hlt : ∀ u, A u < 625 := fun u => (hA u).lt
  obtain ⟨r, e, -, hle, hex⟩ := fold_minsi_spec Finset.univ
    (fun u : Fin 8 => if runMax s 624 (ix2 u b) = tileMax s (ix2 0 b)
        then IntOp.addi (IntOp.muli (runArg s 624 (ix2 u b)) 8#32) (BitVec.ofNat 32 u.val) else 5000#32)
    (fun u => if runMax s 624 (ix2 u b) = tileMax s (ix2 0 b) then A u * 8 + u.val else 625 * 8)
    (fun u => by have := hlt u; have := u.isLt; split <;> omega)
    (fun u => by
      split
      · rw [hA' u]
        simp only [IntOp.addi, IntOp.muli, ← BitVec.ofNat_mul, ← BitVec.ofNat_add]
      · rfl)
  refine ⟨r, Best.interleave (f := col s b) (K := 625) (M := fun u => runMax s 624 (ix2 u b)) (A := A)
    (fun u => (hA u).congr fun k hk => ?_) (fun u => hT.1 u (Finset.mem_univ _)) ?_ (fun u => rfl)
    (fun u => hle u (Finset.mem_univ _)) ?_, ?_⟩
  · show s _ = s _
    have h1 : (k * 8 + u.val) / 8 = k := by have := u.isLt; omega
    have h2 : Fin.ofNat 8 ((k * 8 + u.val) % 8) = u := by
      apply Fin.ext
      have := u.isLt
      simp [Fin.ofNat]
    rw [h1, h2]
    rfl
  · obtain ⟨u, -, e⟩ := hT.2 ⟨0, Finset.mem_univ _⟩
    exact ⟨u, e⟩
  · obtain ⟨u, -, e⟩ := hex ⟨0, Finset.mem_univ _⟩
    exact ⟨u, e⟩
  · rw [tileArg_apply, e]
    exact word_place r p

end Cert.KernelIdeal.Slab

end
-- ==== Proof.Cases.lean ====
/-
  What each kind of grid point leaves in the two results and in the two scratch buffers. The first point encodes the
  batch and scans block 0; a middle point scans its block and keeps the better of the old and the new; the last point
  does that and divides the values by the kept norms.
-/
module

public import proofs.«01_k».proof.Proof.Tile
public import proofs.«01_k».proof.Proof.Gen.KernelIdeal.Frame

@[expose] public section

set_option maxRecDepth 16384

noncomputable section

namespace Cert.KernelIdeal.Slab

open Cert.KernelIdeal Cert.KernelIdeal.Gen Idealize.ShloMosaic Idealize.ShloMosaic.TcCoe Idealize.ShloMosaic.Tactic

/-- The last layer's product, before its bias. -/
def encDot (x0 : Vec Ideal S1024x2048 .f32) (x1 : Vec Ideal S1024x2048 .f32) (x2 x3 x4 : Vec Ideal S1x1024 .f32)
    (x5 : Vec Ideal S512x1024 .f32) (x6 x7 x8 : Vec Ideal S1x512 .f32) (x9 : Vec Ideal S128x512 .f32) : Vec Ideal S1024x128 .f32 :=
  k0_pay7 (k0_pay6 x0 x1 x2 x3 x4) x5 x6 x7 x8 x9

/-- The encoded and scaled batch the first point stores. -/
def encE (x0 : Vec Ideal S1024x2048 .f32) (x1 : Vec Ideal S1024x2048 .f32) (x2 x3 x4 : Vec Ideal S1x1024 .f32)
    (x5 : Vec Ideal S512x1024 .f32) (x6 x7 x8 : Vec Ideal S1x512 .f32) (x9 : Vec Ideal S128x512 .f32) (x10 : Vec Ideal S1x128 .f32) :
    Vec Ideal S1024x128 .f32 :=
  k0_pay9 (encDot x0 x1 x2 x3 x4 x5 x6 x7 x8 x9) x10

/-- The norms of the stored batch the first point stores. -/
def encN (x0 : Vec Ideal S1024x2048 .f32) (x1 : Vec Ideal S1024x2048 .f32) (x2 x3 x4 : Vec Ideal S1x1024 .f32)
    (x5 : Vec Ideal S512x1024 .f32) (x6 x7 x8 : Vec Ideal S1x512 .f32) (x9 : Vec Ideal S128x512 .f32) (x10 : Vec Ideal S1x128 .f32) :
    Vec Ideal S1x1024 .f32 :=
  k0_pay10 (encDot x0 x1 x2 x3 x4 x5 x6 x7 x8 x9) x10

/-- Every offset of a whole-buffer access is zero. -/
theorem hz : (![0, 0] : Fin 2 → Nat) = fun _ => 0 := funext fun a => by fin_cases a <;> rfl

set_option maxHeartbeats 4000000 in
/-- The values the three kinds of grid point leave, in terms of the scan of the point's block. -/
theorem case_values (c : Dev nD) (i : grid0.Coords) (a1 : Memref sig .tc .vmem S1024x2048 .f32) (h1 : a1.IsWhole) (a2 : Memref sig .tc .vmem S1024x2048 .f32) (h2 : a2.IsWhole) (a3 : Memref sig .tc .vmem S1x1024 .f32) (h3 : a3.IsWhole) (a4 : Memref sig .tc .vmem S1x1024 .f32) (h4 : a4.IsWhole) (a5 : Memref sig .tc .vmem S1x1024 .f32) (h5 : a5.IsWhole) (a6 : Memref sig .tc .vmem S512x1024 .f32) (h6 : a6.IsWhole) (a7 : Memref sig .tc .vmem S1x512 .f32) (h7 : a7.IsWhole) (a8 : Memref sig .tc .vmem S1x512 .f32) (h8 : a8.IsWhole) (a9 : Memref sig .tc .vmem S1x512 .f32) (h9 : a9.IsWhole) (a10 : Memref sig .tc .vmem S128x512 .f32) (h10 : a10.IsWhole) (a11 : Memref sig .tc .vmem S1x128 .f32) (h11 : a11.IsWhole) (a12 : Memref sig .tc .vmem S5000x128 .f32) (h12 : a12.IsWhole) (a13 : Memref sig .tc .vmem S1x1024 .f32) (h13 : a13.IsWhole) (a14 : Memref sig .tc .vmem S1x1024 .i32) (h14 : a14.IsWhole) (a15 : Memref sig .tc .vmem S1024x128 .f32) (h15 : a15.IsWhole) (a16 : Memref sig .tc .vmem S1x1024 .f32) (h16 : a16.IsWhole)
    (x0 : Vec Ideal S1024x2048 .f32) (x1 : Vec Ideal S1024x2048 .f32) (x2 : Vec Ideal S1x1024 .f32) (x3 : Vec Ideal S1x1024 .f32) (x4 : Vec Ideal S1x1024 .f32) (x5 : Vec Ideal S512x1024 .f32) (x6 : Vec Ideal S1x512 .f32) (x7 : Vec Ideal S1x512 .f32) (x8 : Vec Ideal S1x512 .f32) (x9 : Vec Ideal S128x512 .f32) (x10 : Vec Ideal S1x128 .f32) (x11 : Vec Ideal S5000x128 .f32) (xo12 : Vec Ideal S1x1024 .f32) (xo13 : Vec Ideal S1x1024 .i32) (xs0 : Vec Ideal S1024x128 .f32) (xs1 : Vec Ideal S1x1024 .f32) :
    (∀ (hc0 : cond0_0 i) (hc1 : cond0_1 i) (hc2 : ¬cond0_2 i) (hc3 : ¬cond0_3 i),
      sout0_A_0 c i a1 h1 a2 h2 a3 h3 a4 h4 a5 h5 a6 h6 a7 h7 a8 h8 a9 h9 a10 h10 a11 h11 a12 h12 a13 h13 a14 h14 a15 h15 a16 h16 hc0 hc1 hc2 hc3
        x0 x1 x2 x3 x4 x5 x6 x7 x8 x9 x10 x11 = (encE x0 x1 x2 x3 x4 x5 x6 x7 x8 x9 x10)) ∧
    (∀ (hc0 : cond0_0 i) (hc1 : cond0_1 i) (hc2 : ¬cond0_2 i) (hc3 : ¬cond0_3 i),
      sout0_A_1 c i a1 h1 a2 h2 a3 h3 a4 h4 a5 h5 a6 h6 a7 h7 a8 h8 a9 h9 a10 h10 a11 h11 a12 h12 a13 h13 a14 h14 a15 h15 a16 h16 hc0 hc1 hc2 hc3
        x0 x1 x2 x3 x4 x5 x6 x7 x8 x9 x10 x11 = (encN x0 x1 x2 x3 x4 x5 x6 x7 x8 x9 x10)) ∧
    (∀ (hc0 : cond0_0 i) (hc1 : cond0_1 i) (hc2 : ¬cond0_2 i) (hc3 : ¬cond0_3 i),
      out0_A_12 c i a1 h1 a2 h2 a3 h3 a4 h4 a5 h5 a6 h6 a7 h7 a8 h8 a9 h9 a10 h10 a11 h11 a12 h12 a13 h13 a14 h14 a15 h15 a16 h16 hc0 hc1 hc2 hc3
        x0 x1 x2 x3 x4 x5 x6 x7 x8 x9 x10 x11 = tileMax (k0_pay11 x11 (encE x0 x1 x2 x3 x4 x5 x6 x7 x8 x9 x10))) ∧
    (∀ (hc0 : cond0_0 i) (hc1 : cond0_1 i) (hc2 : ¬cond0_2 i) (hc3 : ¬cond0_3 i),
      out0_A_13 c i a1 h1 a2 h2 a3 h3 a4 h4 a5 h5 a6 h6 a7 h7 a8 h8 a9 h9 a10 h10 a11 h11 a12 h12 a13 h13 a14 h14 a15 h15 a16 h16 hc0 hc1 hc2 hc3
        x0 x1 x2 x3 x4 x5 x6 x7 x8 x9 x10 x11 = tileArg (BitVec.ofNat 32 (i 0).val) (k0_pay11 x11 (encE x0 x1 x2 x3 x4 x5 x6 x7 x8 x9 x10))) ∧
    (∀ (hc0 : ¬cond0_0 i) (hc1 : ¬cond0_1 i) (hc2 : cond0_2 i) (hc3 : ¬cond0_3 i),
      out0_B_12 c i a1 h1 a2 h2 a3 h3 a4 h4 a5 h5 a6 h6 a7 h7 a8 h8 a9 h9 a10 h10 a11 h11 a12 h12 a13 h13 a14 h14 a15 h15 a16 h16 hc0 hc1 hc2 hc3
        x0 x1 x2 x3 x4 x5 x6 x7 x8 x9 x10 x11 xo12 xo13 xs0 xs1 = k0_pay3 (tileMax (k0_pay11 x11 xs0)) xo12) ∧
    (∀ (hc0 : ¬cond0_0 i) (hc1 : ¬cond0_1 i) (hc2 : cond0_2 i) (hc3 : ¬cond0_3 i),
      out0_B_13 c i a1 h1 a2 h2 a3 h3 a4 h4 a5 h5 a6 h6 a7 h7 a8 h8 a9 h9 a10 h10 a11 h11 a12 h12 a13 h13 a14 h14 a15 h15 a16 h16 hc0 hc1 hc2 hc3
        x0 x1 x2 x3 x4 x5 x6 x7 x8 x9 x10 x11 xo12 xo13 xs0 xs1 = k0_pay4 (tileMax (k0_pay11 x11 xs0)) (tileArg (BitVec.ofNat 32 (i 0).val) (k0_pay11 x11 xs0)) xo12 xo13) ∧
    (∀ (hc0 : ¬cond0_0 i) (hc1 : ¬cond0_1 i) (hc2 : cond0_2 i) (hc3 : cond0_3 i),
      out0_C_12 c i a1 h1 a2 h2 a3 h3 a4 h4 a5 h5 a6 h6 a7 h7 a8 h8 a9 h9 a10 h10 a11 h11 a12 h12 a13 h13 a14 h14 a15 h15 a16 h16 hc0 hc1 hc2 hc3
        x0 x1 x2 x3 x4 x5 x6 x7 x8 x9 x10 x11 xo12 xo13 xs0 xs1 = k0_pay5 (k0_pay3 (tileMax (k0_pay11 x11 xs0)) xo12) xs1) ∧
    (∀ (hc0 : ¬cond0_0 i) (hc1 : ¬cond0_1 i) (hc2 : cond0_2 i) (hc3 : cond0_3 i),
      out0_C_13 c i a1 h1 a2 h2 a3 h3 a4 h4 a5 h5 a6 h6 a7 h7 a8 h8 a9 h9 a10 h10 a11 h11 a12 h12 a13 h13 a14 h14 a15 h15 a16 h16 hc0 hc1 hc2 hc3
        x0 x1 x2 x3 x4 x5 x6 x7 x8 x9 x10 x11 xo12 xo13 xs0 xs1 = k0_pay4 (tileMax (k0_pay11 x11 xs0)) (tileArg (BitVec.ofNat 32 (i 0).val) (k0_pay11 x11 xs0)) xo12 xo13) := by
  refine ⟨fun hc0 hc1 hc2 hc3 => ?_, fun hc0 hc1 hc2 hc3 => ?_, fun hc0 hc1 hc2 hc3 => ?_, fun hc0 hc1 hc2 hc3 => ?_,
    fun hc0 hc1 hc2 hc3 => ?_, fun hc0 hc1 hc2 hc3 => ?_, fun hc0 hc1 hc2 hc3 => ?_, fun hc0 hc1 hc2 hc3 => ?_⟩
  case refine_1 =>
    unfold sout0_A_0
    rw [View.read_writes_eq_canon _ _ _ (scover0_A_0 c i a1 h1 a2 h2 a3 h3 a4 h4 a5 h5 a6 h6 a7 h7 a8 h8 a9 h9 a10 h10 a11 h11 a12 h12 a13 h13 a14 h14 a15 h15 a16 h16 hc0 hc1 hc2 hc3
        x0 x1 x2 x3 x4 x5 x6 x7 x8 x9 x10 x11)]
    unfold kernelRun0_A
    dsimp only
    sl_unfold_words
    rw [View.canon_unit_zero (S := S1024x128) hz]
    simp only [View.readAt_eq_ld, h1.read_unread, h2.read_unread, h3.read_unread, h4.read_unread, h5.read_unread,
      h6.read_unread, h7.read_unread, h8.read_unread, h9.read_unread, h10.read_unread, h11.read_unread,
      View.ld_unit_zero (S := S1024x2048) hz, View.ld_unit_zero (S := S1x1024) hz, View.ld_unit_zero (S := S512x1024) hz,
      View.ld_unit_zero (S := S1x512) hz, View.ld_unit_zero (S := S128x512) hz, View.ld_unit_zero (S := S1x128) hz]
    rfl
  case refine_2 =>
    unfold sout0_A_1
    rw [View.read_writes_eq_canon _ _ _ (scover0_A_1 c i a1 h1 a2 h2 a3 h3 a4 h4 a5 h5 a6 h6 a7 h7 a8 h8 a9 h9 a10 h10 a11 h11 a12 h12 a13 h13 a14 h14 a15 h15 a16 h16 hc0 hc1 hc2 hc3
        x0 x1 x2 x3 x4 x5 x6 x7 x8 x9 x10 x11)]
    unfold kernelRun0_A
    dsimp only
    sl_unfold_words
    rw [View.canon_unit_zero (S := S1x1024) hz]
    simp only [View.readAt_eq_ld, h1.read_unread, h2.read_unread, h3.read_unread, h4.read_unread, h5.read_unread,
      h6.read_unread, h7.read_unread, h8.read_unread, h9.read_unread, h10.read_unread, h11.read_unread,
      View.ld_unit_zero (S := S1024x2048) hz, View.ld_unit_zero (S := S1x1024) hz, View.ld_unit_zero (S := S512x1024) hz,
      View.ld_unit_zero (S := S1x512) hz, View.ld_unit_zero (S := S128x512) hz, View.ld_unit_zero (S := S1x128) hz]
    rfl
  case' refine_3 =>
    unfold out0_A_12
    rw [View.read_writes_eq_canon _ _ _ (cover0_A_12 c i a1 h1 a2 h2 a3 h3 a4 h4 a5 h5 a6 h6 a7 h7 a8 h8 a9 h9 a10 h10 a11 h11 a12 h12 a13 h13 a14 h14 a15 h15 a16 h16 hc0 hc1 hc2 hc3
        x0 x1 x2 x3 x4 x5 x6 x7 x8 x9 x10 x11)]
    unfold kernelRun0_A
    dsimp only
    rw [View.canon_unit_zero hz]
  case' refine_4 =>
    unfold out0_A_13
    rw [View.read_writes_eq_canon _ _ _ (cover0_A_13 c i a1 h1 a2 h2 a3 h3 a4 h4 a5 h5 a6 h6 a7 h7 a8 h8 a9 h9 a10 h10 a11 h11 a12 h12 a13 h13 a14 h14 a15 h15 a16 h16 hc0 hc1 hc2 hc3
        x0 x1 x2 x3 x4 x5 x6 x7 x8 x9 x10 x11)]
    unfold kernelRun0_A
    dsimp only
    rw [View.canon_unit_zero hz]
  case' refine_5 =>
    unfold out0_B_12
    rw [View.read_writes_eq_canon _ _ _ (cover0_B_12 c i a1 h1 a2 h2 a3 h3 a4 h4 a5 h5 a6 h6 a7 h7 a8 h8 a9 h9 a10 h10 a11 h11 a12 h12 a13 h13 a14 h14 a15 h15 a16 h16 hc0 hc1 hc2 hc3
        x0 x1 x2 x3 x4 x5 x6 x7 x8 x9 x10 x11 xo12 xo13 xs0 xs1)]
    unfold kernelRun0_B
    dsimp only
    rw [View.canon_unit_zero hz]
  case' refine_6 =>
    unfold out0_B_13
    rw [View.read_writes_eq_canon _ _ _ (cover0_B_13 c i a1 h1 a2 h2 a3 h3 a4 h4 a5 h5 a6 h6 a7 h7 a8 h8 a9 h9 a10 h10 a11 h11 a12 h12 a13 h13 a14 h14 a15 h15 a16 h16 hc0 hc1 hc2 hc3
        x0 x1 x2 x3 x4 x5 x6 x7 x8 x9 x10 x11 xo12 xo13 xs0 xs1)]
    unfold kernelRun0_B
    dsimp only
    rw [View.canon_unit_zero hz]
  case' refine_7 =>
    unfold out0_C_12
    rw [View.read_writes_eq_canon _ _ _ (cover0_C_12 c i a1 h1 a2 h2 a3 h3 a4 h4 a5 h5 a6 h6 a7 h7 a8 h8 a9 h9 a10 h10 a11 h11 a12 h12 a13 h13 a14 h14 a15 h15 a16 h16 hc0 hc1 hc2 hc3
        x0 x1 x2 x3 x4 x5 x6 x7 x8 x9 x10 x11 xo12 xo13 xs0 xs1)]
    unfold kernelRun0_C
    dsimp only
    rw [View.canon_cons_unit_zero (S := S1x1024) hz]
  case' refine_8 =>
    unfold out0_C_13
    rw [View.read_writes_eq_canon _ _ _ (cover0_C_13 c i a1 h1 a2 h2 a3 h3 a4 h4 a5 h5 a6 h6 a7 h7 a8 h8 a9 h9 a10 h10 a11 h11 a12 h12 a13 h13 a14 h14 a15 h15 a16 h16 hc0 hc1 hc2 hc3
        x0 x1 x2 x3 x4 x5 x6 x7 x8 x9 x10 x11 xo12 xo13 xs0 xs1)]
    unfold kernelRun0_C
    dsimp only
    rw [View.canon_unit_zero hz]
  all_goals
    sl_unfold_words
    simp only [View.readCov_unit_zero (S := S1024x128) _ hz, View.readCov_unit_zero (S := S1x1024) _ hz, View.readAt_eq_ld,
      h1.read_unread, h2.read_unread, h3.read_unread, h4.read_unread, h5.read_unread, h6.read_unread, h7.read_unread,
      h8.read_unread, h9.read_unread, h10.read_unread, h11.read_unread, h12.read_unread, h13.read_unread, h14.read_unread,
      h15.read_unread, h16.read_unread, View.ld_unit_zero (S := S1024x2048) hz, View.ld_unit_zero (S := S1x1024) hz,
      View.ld_unit_zero (S := S512x1024) hz, View.ld_unit_zero (S := S1x512) hz, View.ld_unit_zero (S := S128x512) hz,
      View.ld_unit_zero (S := S1x128) hz, View.ld_unit_zero (S := S5000x128) hz, View.ld_unit_zero (S := S1024x128) hz]
    simp only [slab_fold, max_fold, arg_fold, max_fold_zero, arg_fold_zero, Nat.reduceAdd,
    k0_pay12, k0_pay13, k0_pay14, k0_pay15, k0_pay16, k0_pay17, k0_pay18, k0_pay19, k0_pay20, k0_pay21, k0_pay22,
    k0_pay23, k0_pay24, k0_pay25, k0_pay26, k0_pay27, k0_pay28, k0_pay29, k0_pay30, k0_pay31, k0_pay32, k0_pay33,
    k0_pay34, k0_pay35, k0_pay36, k0_pay37, k0_pay38, k0_pay39, k0_pay40, k0_pay41, k0_pay42, k0_pay43, k0_pay44,
    k0_pay45, k0_pay46, k0_pay47, k0_pay48, k0_pay49, k0_pay50, k0_pay51, k0_pay52, k0_pay53, k0_pay54, k0_pay55,
    k0_pay56, k0_pay57, k0_pay58, k0_pay59, k0_pay60, k0_pay61, k0_pay62, k0_pay63, k0_pay64, k0_pay65, k0_pay66,
    k0_pay67, k0_pay68, k0_pay69, k0_pay70, k0_pay71, k0_pay72, k0_pay73, k0_pay74, k0_pay75, k0_pay76, k0_pay77,
    k0_pay78, k0_pay79, k0_pay80, k0_pay81, k0_pay82, k0_pay83, k0_pay84, k0_pay85, k0_pay86, k0_pay87, k0_pay88,
    k0_pay89, k0_pay90, k0_pay91, k0_pay92, k0_pay93, k0_pay94, k0_pay95, k0_pay96, k0_pay97, k0_pay98, k0_pay99,
    k0_pay100, k0_pay101, k0_pay102, k0_pay103, k0_pay104, k0_pay105, k0_pay106, k0_pay107, k0_pay108, k0_pay109,
    k0_pay110, k0_pay111, k0_pay112, k0_pay113, k0_pay114, k0_pay115, k0_pay116, k0_pay117, k0_pay118, k0_pay119,
    k0_pay120, k0_pay121, k0_pay122, k0_pay123, k0_pay124, k0_pay125, k0_pay126, k0_pay127, k0_pay128, k0_pay129,
    k0_pay130, k0_pay131, k0_pay132, k0_pay133, k0_pay134, k0_pay135, k0_pay136, k0_pay137, k0_pay138, k0_pay139,
    k0_pay140, k0_pay141, k0_pay142, k0_pay143, k0_pay144, k0_pay145, k0_pay146, k0_pay147, k0_pay148, k0_pay149,
    k0_pay150, k0_pay151, k0_pay152, k0_pay153, k0_pay154, k0_pay155, k0_pay156, k0_pay157, k0_pay158, k0_pay159,
    k0_pay160, k0_pay161, k0_pay162, k0_pay163, k0_pay164, k0_pay165, k0_pay166, k0_pay167, k0_pay168, k0_pay169,
    k0_pay170, k0_pay171, k0_pay172, k0_pay173, k0_pay174, k0_pay175, k0_pay176, k0_pay177, k0_pay178, k0_pay179,
    k0_pay180, k0_pay181, k0_pay182, k0_pay183, k0_pay184, k0_pay185, k0_pay186, k0_pay187, k0_pay188, k0_pay189,
    k0_pay190, k0_pay191, k0_pay192, k0_pay193, k0_pay194, k0_pay195, k0_pay196, k0_pay197, k0_pay198, k0_pay199,
    k0_pay200, k0_pay201, k0_pay202, k0_pay203, k0_pay204, k0_pay205, k0_pay206, k0_pay207, k0_pay208, k0_pay209,
    k0_pay210, k0_pay211, k0_pay212, k0_pay213, k0_pay214, k0_pay215, k0_pay216, k0_pay217, k0_pay218, k0_pay219,
    k0_pay220, k0_pay221, k0_pay222, k0_pay223, k0_pay224, k0_pay225, k0_pay226, k0_pay227, k0_pay228, k0_pay229,
    k0_pay230, k0_pay231, k0_pay232, k0_pay233, k0_pay234, k0_pay235, k0_pay236, k0_pay237, k0_pay238, k0_pay239,
    k0_pay240, k0_pay241, k0_pay242, k0_pay243, k0_pay244, k0_pay245, k0_pay246, k0_pay247, k0_pay248, k0_pay249,
    k0_pay250, k0_pay251, k0_pay252, k0_pay253, k0_pay254, k0_pay255, k0_pay256, k0_pay257, k0_pay258, k0_pay259,
    k0_pay260, k0_pay261, k0_pay262, k0_pay263, k0_pay264, k0_pay265, k0_pay266, k0_pay267, k0_pay268, k0_pay269,
    k0_pay270, k0_pay271, k0_pay272, k0_pay273, k0_pay274, k0_pay275, k0_pay276, k0_pay277, k0_pay278, k0_pay279,
    k0_pay280, k0_pay281, k0_pay282, k0_pay283, k0_pay284, k0_pay285, k0_pay286, k0_pay287, k0_pay288, k0_pay289,
    k0_pay290, k0_pay291, k0_pay292, k0_pay293, k0_pay294, k0_pay295, k0_pay296, k0_pay297, k0_pay298, k0_pay299,
    k0_pay300, k0_pay301, k0_pay302, k0_pay303, k0_pay304, k0_pay305, k0_pay306, k0_pay307, k0_pay308, k0_pay309,
    k0_pay310, k0_pay311, k0_pay312, k0_pay313, k0_pay314, k0_pay315, k0_pay316, k0_pay317, k0_pay318, k0_pay319,
    k0_pay320, k0_pay321, k0_pay322, k0_pay323, k0_pay324, k0_pay325, k0_pay326, k0_pay327, k0_pay328, k0_pay329,
    k0_pay330, k0_pay331, k0_pay332, k0_pay333, k0_pay334, k0_pay335, k0_pay336, k0_pay337, k0_pay338, k0_pay339,
    k0_pay340, k0_pay341, k0_pay342, k0_pay343, k0_pay344, k0_pay345, k0_pay346, k0_pay347, k0_pay348, k0_pay349,
    k0_pay350, k0_pay351, k0_pay352, k0_pay353, k0_pay354, k0_pay355, k0_pay356, k0_pay357, k0_pay358, k0_pay359,
    k0_pay360, k0_pay361, k0_pay362, k0_pay363, k0_pay364, k0_pay365, k0_pay366, k0_pay367, k0_pay368, k0_pay369,
    k0_pay370, k0_pay371, k0_pay372, k0_pay373, k0_pay374, k0_pay375, k0_pay376, k0_pay377, k0_pay378, k0_pay379,
    k0_pay380, k0_pay381, k0_pay382, k0_pay383, k0_pay384, k0_pay385, k0_pay386, k0_pay387, k0_pay388, k0_pay389,
    k0_pay390, k0_pay391, k0_pay392, k0_pay393, k0_pay394, k0_pay395, k0_pay396, k0_pay397, k0_pay398, k0_pay399,
    k0_pay400, k0_pay401, k0_pay402, k0_pay403, k0_pay404, k0_pay405, k0_pay406, k0_pay407, k0_pay408, k0_pay409,
    k0_pay410, k0_pay411, k0_pay412, k0_pay413, k0_pay414, k0_pay415, k0_pay416, k0_pay417, k0_pay418, k0_pay419,
    k0_pay420, k0_pay421, k0_pay422, k0_pay423, k0_pay424, k0_pay425, k0_pay426, k0_pay427, k0_pay428, k0_pay429,
    k0_pay430, k0_pay431, k0_pay432, k0_pay433, k0_pay434, k0_pay435, k0_pay436, k0_pay437, k0_pay438, k0_pay439,
    k0_pay440, k0_pay441, k0_pay442, k0_pay443, k0_pay444, k0_pay445, k0_pay446, k0_pay447, k0_pay448, k0_pay449,
    k0_pay450, k0_pay451, k0_pay452, k0_pay453, k0_pay454, k0_pay455, k0_pay456, k0_pay457, k0_pay458, k0_pay459,
    k0_pay460, k0_pay461, k0_pay462, k0_pay463, k0_pay464, k0_pay465, k0_pay466, k0_pay467, k0_pay468, k0_pay469,
    k0_pay470, k0_pay471, k0_pay472, k0_pay473, k0_pay474, k0_pay475, k0_pay476, k0_pay477, k0_pay478, k0_pay479,
    k0_pay480, k0_pay481, k0_pay482, k0_pay483, k0_pay484, k0_pay485, k0_pay486, k0_pay487, k0_pay488, k0_pay489,
    k0_pay490, k0_pay491, k0_pay492, k0_pay493, k0_pay494, k0_pay495, k0_pay496, k0_pay497, k0_pay498, k0_pay499,
    k0_pay500, k0_pay501, k0_pay502, k0_pay503, k0_pay504, k0_pay505, k0_pay506, k0_pay507, k0_pay508, k0_pay509,
    k0_pay510, k0_pay511, k0_pay512, k0_pay513, k0_pay514, k0_pay515, k0_pay516, k0_pay517, k0_pay518, k0_pay519,
    k0_pay520, k0_pay521, k0_pay522, k0_pay523, k0_pay524, k0_pay525, k0_pay526, k0_pay527, k0_pay528, k0_pay529,
    k0_pay530, k0_pay531, k0_pay532, k0_pay533, k0_pay534, k0_pay535, k0_pay536, k0_pay537, k0_pay538, k0_pay539,
    k0_pay540, k0_pay541, k0_pay542, k0_pay543, k0_pay544, k0_pay545, k0_pay546, k0_pay547, k0_pay548, k0_pay549,
    k0_pay550, k0_pay551, k0_pay552, k0_pay553, k0_pay554, k0_pay555, k0_pay556, k0_pay557, k0_pay558, k0_pay559,
    k0_pay560, k0_pay561, k0_pay562, k0_pay563, k0_pay564, k0_pay565, k0_pay566, k0_pay567, k0_pay568, k0_pay569,
    k0_pay570, k0_pay571, k0_pay572, k0_pay573, k0_pay574, k0_pay575, k0_pay576, k0_pay577, k0_pay578, k0_pay579,
    k0_pay580, k0_pay581, k0_pay582, k0_pay583, k0_pay584, k0_pay585, k0_pay586, k0_pay587, k0_pay588, k0_pay589,
    k0_pay590, k0_pay591, k0_pay592, k0_pay593, k0_pay594, k0_pay595, k0_pay596, k0_pay597, k0_pay598, k0_pay599,
    k0_pay600, k0_pay601, k0_pay602, k0_pay603, k0_pay604, k0_pay605, k0_pay606, k0_pay607, k0_pay608, k0_pay609,
    k0_pay610, k0_pay611, k0_pay612, k0_pay613, k0_pay614, k0_pay615, k0_pay616, k0_pay617, k0_pay618, k0_pay619,
    k0_pay620, k0_pay621, k0_pay622, k0_pay623, k0_pay624, k0_pay625, k0_pay626, k0_pay627, k0_pay628, k0_pay629,
    k0_pay630, k0_pay631, k0_pay632, k0_pay633, k0_pay634, k0_pay635, k0_pay636, k0_pay637, k0_pay638, k0_pay639,
    k0_pay640, k0_pay641, k0_pay642, k0_pay643, k0_pay644, k0_pay645, k0_pay646, k0_pay647, k0_pay648, k0_pay649,
    k0_pay650, k0_pay651, k0_pay652, k0_pay653, k0_pay654, k0_pay655, k0_pay656, k0_pay657, k0_pay658, k0_pay659,
    k0_pay660, k0_pay661, k0_pay662, k0_pay663, k0_pay664, k0_pay665, k0_pay666, k0_pay667, k0_pay668, k0_pay669,
    k0_pay670, k0_pay671, k0_pay672, k0_pay673, k0_pay674, k0_pay675, k0_pay676, k0_pay677, k0_pay678, k0_pay679,
    k0_pay680, k0_pay681, k0_pay682, k0_pay683, k0_pay684, k0_pay685, k0_pay686, k0_pay687, k0_pay688, k0_pay689,
    k0_pay690, k0_pay691, k0_pay692, k0_pay693, k0_pay694, k0_pay695, k0_pay696, k0_pay697, k0_pay698, k0_pay699,
    k0_pay700, k0_pay701, k0_pay702, k0_pay703, k0_pay704, k0_pay705, k0_pay706, k0_pay707, k0_pay708, k0_pay709,
    k0_pay710, k0_pay711, k0_pay712, k0_pay713, k0_pay714, k0_pay715, k0_pay716, k0_pay717, k0_pay718, k0_pay719,
    k0_pay720, k0_pay721, k0_pay722, k0_pay723, k0_pay724, k0_pay725, k0_pay726, k0_pay727, k0_pay728, k0_pay729,
    k0_pay730, k0_pay731, k0_pay732, k0_pay733, k0_pay734, k0_pay735, k0_pay736, k0_pay737, k0_pay738, k0_pay739,
    k0_pay740, k0_pay741, k0_pay742, k0_pay743, k0_pay744, k0_pay745, k0_pay746, k0_pay747, k0_pay748, k0_pay749,
    k0_pay750, k0_pay751, k0_pay752, k0_pay753, k0_pay754, k0_pay755, k0_pay756, k0_pay757, k0_pay758, k0_pay759,
    k0_pay760, k0_pay761, k0_pay762, k0_pay763, k0_pay764, k0_pay765, k0_pay766, k0_pay767, k0_pay768, k0_pay769,
    k0_pay770, k0_pay771, k0_pay772, k0_pay773, k0_pay774, k0_pay775, k0_pay776, k0_pay777, k0_pay778, k0_pay779,
    k0_pay780, k0_pay781, k0_pay782, k0_pay783, k0_pay784, k0_pay785, k0_pay786, k0_pay787, k0_pay788, k0_pay789,
    k0_pay790, k0_pay791, k0_pay792, k0_pay793, k0_pay794, k0_pay795, k0_pay796, k0_pay797, k0_pay798, k0_pay799,
    k0_pay800, k0_pay801, k0_pay802, k0_pay803, k0_pay804, k0_pay805, k0_pay806, k0_pay807, k0_pay808, k0_pay809,
    k0_pay810, k0_pay811, k0_pay812, k0_pay813, k0_pay814, k0_pay815, k0_pay816, k0_pay817, k0_pay818, k0_pay819,
    k0_pay820, k0_pay821, k0_pay822, k0_pay823, k0_pay824, k0_pay825, k0_pay826, k0_pay827, k0_pay828, k0_pay829,
    k0_pay830, k0_pay831, k0_pay832, k0_pay833, k0_pay834, k0_pay835, k0_pay836, k0_pay837, k0_pay838, k0_pay839,
    k0_pay840, k0_pay841, k0_pay842, k0_pay843, k0_pay844, k0_pay845, k0_pay846, k0_pay847, k0_pay848, k0_pay849,
    k0_pay850, k0_pay851, k0_pay852, k0_pay853, k0_pay854, k0_pay855, k0_pay856, k0_pay857, k0_pay858, k0_pay859,
    k0_pay860, k0_pay861, k0_pay862, k0_pay863, k0_pay864, k0_pay865, k0_pay866, k0_pay867, k0_pay868, k0_pay869,
    k0_pay870, k0_pay871, k0_pay872, k0_pay873, k0_pay874, k0_pay875, k0_pay876, k0_pay877, k0_pay878, k0_pay879,
    k0_pay880, k0_pay881, k0_pay882, k0_pay883, k0_pay884, k0_pay885, k0_pay886, k0_pay887, k0_pay888, k0_pay889,
    k0_pay890, k0_pay891, k0_pay892, k0_pay893, k0_pay894, k0_pay895, k0_pay896, k0_pay897, k0_pay898, k0_pay899,
    k0_pay900, k0_pay901, k0_pay902, k0_pay903, k0_pay904, k0_pay905, k0_pay906, k0_pay907, k0_pay908, k0_pay909,
    k0_pay910, k0_pay911, k0_pay912, k0_pay913, k0_pay914, k0_pay915, k0_pay916, k0_pay917, k0_pay918, k0_pay919,
    k0_pay920, k0_pay921, k0_pay922, k0_pay923, k0_pay924, k0_pay925, k0_pay926, k0_pay927, k0_pay928, k0_pay929,
    k0_pay930, k0_pay931, k0_pay932, k0_pay933, k0_pay934, k0_pay935, k0_pay936, k0_pay937, k0_pay938, k0_pay939,
    k0_pay940, k0_pay941, k0_pay942, k0_pay943, k0_pay944, k0_pay945, k0_pay946, k0_pay947, k0_pay948, k0_pay949,
    k0_pay950, k0_pay951, k0_pay952, k0_pay953, k0_pay954, k0_pay955, k0_pay956, k0_pay957, k0_pay958, k0_pay959,
    k0_pay960, k0_pay961, k0_pay962, k0_pay963, k0_pay964, k0_pay965, k0_pay966, k0_pay967, k0_pay968, k0_pay969,
    k0_pay970, k0_pay971, k0_pay972, k0_pay973, k0_pay974, k0_pay975, k0_pay976, k0_pay977, k0_pay978, k0_pay979,
    k0_pay980, k0_pay981, k0_pay982, k0_pay983, k0_pay984, k0_pay985, k0_pay986, k0_pay987, k0_pay988, k0_pay989,
    k0_pay990, k0_pay991, k0_pay992, k0_pay993, k0_pay994, k0_pay995, k0_pay996, k0_pay997, k0_pay998, k0_pay999,
    k0_pay1000, k0_pay1001, k0_pay1002, k0_pay1003, k0_pay1004, k0_pay1005, k0_pay1006, k0_pay1007, k0_pay1008,
    k0_pay1009, k0_pay1010, k0_pay1011, k0_pay1012, k0_pay1013, k0_pay1014, k0_pay1015, k0_pay1016, k0_pay1017,
    k0_pay1018, k0_pay1019, k0_pay1020, k0_pay1021, k0_pay1022, k0_pay1023, k0_pay1024, k0_pay1025, k0_pay1026,
    k0_pay1027, k0_pay1028, k0_pay1029, k0_pay1030, k0_pay1031, k0_pay1032, k0_pay1033, k0_pay1034, k0_pay1035,
    k0_pay1036, k0_pay1037, k0_pay1038, k0_pay1039, k0_pay1040, k0_pay1041, k0_pay1042, k0_pay1043, k0_pay1044,
    k0_pay1045, k0_pay1046, k0_pay1047, k0_pay1048, k0_pay1049, k0_pay1050, k0_pay1051, k0_pay1052, k0_pay1053,
    k0_pay1054, k0_pay1055, k0_pay1056, k0_pay1057, k0_pay1058, k0_pay1059, k0_pay1060, k0_pay1061, k0_pay1062,
    k0_pay1063, k0_pay1064, k0_pay1065, k0_pay1066, k0_pay1067, k0_pay1068, k0_pay1069, k0_pay1070, k0_pay1071,
    k0_pay1072, k0_pay1073, k0_pay1074, k0_pay1075, k0_pay1076, k0_pay1077, k0_pay1078, k0_pay1079, k0_pay1080,
    k0_pay1081, k0_pay1082, k0_pay1083, k0_pay1084, k0_pay1085, k0_pay1086, k0_pay1087, k0_pay1088, k0_pay1089,
    k0_pay1090, k0_pay1091, k0_pay1092, k0_pay1093, k0_pay1094, k0_pay1095, k0_pay1096, k0_pay1097, k0_pay1098,
    k0_pay1099, k0_pay1100, k0_pay1101, k0_pay1102, k0_pay1103, k0_pay1104, k0_pay1105, k0_pay1106, k0_pay1107,
    k0_pay1108, k0_pay1109, k0_pay1110, k0_pay1111, k0_pay1112, k0_pay1113, k0_pay1114, k0_pay1115, k0_pay1116,
    k0_pay1117, k0_pay1118, k0_pay1119, k0_pay1120, k0_pay1121, k0_pay1122, k0_pay1123, k0_pay1124, k0_pay1125,
    k0_pay1126, k0_pay1127, k0_pay1128, k0_pay1129, k0_pay1130, k0_pay1131, k0_pay1132, k0_pay1133, k0_pay1134,
    k0_pay1135, k0_pay1136, k0_pay1137, k0_pay1138, k0_pay1139, k0_pay1140, k0_pay1141, k0_pay1142, k0_pay1143,
    k0_pay1144, k0_pay1145, k0_pay1146, k0_pay1147, k0_pay1148, k0_pay1149, k0_pay1150, k0_pay1151, k0_pay1152,
    k0_pay1153, k0_pay1154, k0_pay1155, k0_pay1156, k0_pay1157, k0_pay1158, k0_pay1159, k0_pay1160, k0_pay1161,
    k0_pay1162, k0_pay1163, k0_pay1164, k0_pay1165, k0_pay1166, k0_pay1167, k0_pay1168, k0_pay1169, k0_pay1170,
    k0_pay1171, k0_pay1172, k0_pay1173, k0_pay1174, k0_pay1175, k0_pay1176, k0_pay1177, k0_pay1178, k0_pay1179,
    k0_pay1180, k0_pay1181, k0_pay1182, k0_pay1183, k0_pay1184, k0_pay1185, k0_pay1186, k0_pay1187, k0_pay1188,
    k0_pay1189, k0_pay1190, k0_pay1191, k0_pay1192, k0_pay1193, k0_pay1194, k0_pay1195, k0_pay1196, k0_pay1197,
    k0_pay1198, k0_pay1199, k0_pay1200, k0_pay1201, k0_pay1202, k0_pay1203, k0_pay1204, k0_pay1205, k0_pay1206,
    k0_pay1207, k0_pay1208, k0_pay1209, k0_pay1210, k0_pay1211, k0_pay1212, k0_pay1213, k0_pay1214, k0_pay1215,
    k0_pay1216, k0_pay1217, k0_pay1218, k0_pay1219, k0_pay1220, k0_pay1221, k0_pay1222, k0_pay1223, k0_pay1224,
    k0_pay1225, k0_pay1226, k0_pay1227, k0_pay1228, k0_pay1229, k0_pay1230, k0_pay1231, k0_pay1232, k0_pay1233,
    k0_pay1234, k0_pay1235, k0_pay1236, k0_pay1237, k0_pay1238, k0_pay1239, k0_pay1240, k0_pay1241, k0_pay1242,
    k0_pay1243, k0_pay1244, k0_pay1245, k0_pay1246, k0_pay1247, k0_pay1248, k0_pay1249, k0_pay1250, k0_pay1251,
    k0_pay1252, k0_pay1253, k0_pay1254, k0_pay1255, k0_pay1256, k0_pay1257, k0_pay1258, k0_pay1259, k0_pay1260,
    k0_pay1261, k0_pay1262, k0_pay1263, k0_pay1264, k0_pay1265, k0_pay1266, k0_pay1267, k0_pay1268, k0_pay1269,
    k0_pay1270, k0_pay1271, k0_pay1272, k0_pay1273, k0_pay1274, k0_pay1275, k0_pay1276, k0_pay1277, k0_pay1278,
    k0_pay1279, k0_pay1280, k0_pay1281, k0_pay1282, k0_pay1283, k0_pay1284, k0_pay1285, k0_pay1286, k0_pay1287,
    k0_pay1288, k0_pay1289, k0_pay1290, k0_pay1291, k0_pay1292, k0_pay1293, k0_pay1294, k0_pay1295, k0_pay1296,
    k0_pay1297, k0_pay1298, k0_pay1299, k0_pay1300, k0_pay1301, k0_pay1302, k0_pay1303, k0_pay1304, k0_pay1305,
    k0_pay1306, k0_pay1307, k0_pay1308, k0_pay1309, k0_pay1310, k0_pay1311, k0_pay1312, k0_pay1313, k0_pay1314,
    k0_pay1315, k0_pay1316, k0_pay1317, k0_pay1318, k0_pay1319, k0_pay1320, k0_pay1321, k0_pay1322, k0_pay1323,
    k0_pay1324, k0_pay1325, k0_pay1326, k0_pay1327, k0_pay1328, k0_pay1329, k0_pay1330, k0_pay1331, k0_pay1332,
    k0_pay1333, k0_pay1334, k0_pay1335, k0_pay1336, k0_pay1337, k0_pay1338, k0_pay1339, k0_pay1340, k0_pay1341,
    k0_pay1342, k0_pay1343, k0_pay1344, k0_pay1345, k0_pay1346, k0_pay1347, k0_pay1348, k0_pay1349, k0_pay1350,
    k0_pay1351, k0_pay1352, k0_pay1353, k0_pay1354, k0_pay1355, k0_pay1356, k0_pay1357, k0_pay1358, k0_pay1359,
    k0_pay1360, k0_pay1361, k0_pay1362, k0_pay1363, k0_pay1364, k0_pay1365, k0_pay1366, k0_pay1367, k0_pay1368,
    k0_pay1369, k0_pay1370, k0_pay1371, k0_pay1372, k0_pay1373, k0_pay1374, k0_pay1375, k0_pay1376, k0_pay1377,
    k0_pay1378, k0_pay1379, k0_pay1380, k0_pay1381, k0_pay1382, k0_pay1383, k0_pay1384, k0_pay1385, k0_pay1386,
    k0_pay1387, k0_pay1388, k0_pay1389, k0_pay1390, k0_pay1391, k0_pay1392, k0_pay1393, k0_pay1394, k0_pay1395,
    k0_pay1396, k0_pay1397, k0_pay1398]
    rfl

end Cert.KernelIdeal.Slab

end
-- ==== Proof.Spec.lean ====
/-
  The encoder as plain functions of extended reals: a projection, a layer normalization, the activation, and the whole
  encoding of one row; and the values of the literals that the proofs need.
-/
module

public import Idealize.ShloMosaic.PureOps.Ideal
public import Idealize.ShloMosaic.Lib.Pointwise

@[expose] public section

noncomputable section

namespace Cert.Spec

open Idealize.ShloMosaic

/-- A projection: the products of a row with the rows of a matrix, and a bias. -/
def lin {n k : ℕ} (x : Fin n → EReal) (W : Fin k → Fin n → EReal) (b : Fin k → EReal) (j : Fin k) : EReal :=
  ∑ i, x i * W j i + b j

/-- The mean of a row, whose length is `N`. -/
def mean {k : ℕ} (N : EReal) (z : Fin k → EReal) : EReal := Ideal.div (∑ i, z i) N

/-- The sum of the squared distances from the mean. -/
def spread {k : ℕ} (N : EReal) (z : Fin k → EReal) : EReal := ∑ i, (z i - mean N z) * (z i - mean N z)

/-- A layer normalization of a row of length `N`. -/
def normed {k : ℕ} (N eps : EReal) (z g β : Fin k → EReal) (j : Fin k) : EReal :=
  Ideal.div (z j - mean N z) (Ideal.sqrt (Ideal.div (spread N z) N + eps)) * g j + β j

/-- The activation with the constants `1 / √2` and `1 / 2` as factors. -/
def gelu (t : EReal) : EReal :=
  ((2⁻¹ : ℝ) : EReal) * t * (1 + FloatOps.erf (F := Ideal) (φ := .f32) (t * (((Real.sqrt 2)⁻¹ : ℝ) : EReal)))

/-- The activation with quotients by `√2` and by 2. -/
def geluQ (t : EReal) : EReal :=
  Ideal.div (t * (1 + FloatOps.erf (F := Ideal) (φ := .f32) (Ideal.div t (Ideal.sqrt 2)))) 2

/-- The norm of a row. -/
def norm {k : ℕ} (z : Fin k → EReal) : EReal := Ideal.sqrt (∑ j, z j * z j)

/-- A row divided by its norm, or by the least divisor `c`. -/
def unit {k : ℕ} (c : EReal) (z : Fin k → EReal) (j : Fin k) : EReal := Ideal.div (z j) (max (norm z) c)

/-- The similarity as the kernel computes it, before the last division: the product times the reciprocal of the memory row's norm. -/
def simK {k : ℕ} (c : EReal) (e t : Fin k → EReal) : EReal := (∑ j, t j * e j) * Ideal.div 1 (max (norm t) c)

/-- The similarity as the reference computes it: the product over the product of the norms. -/
def simR {k : ℕ} (c : EReal) (e t : Fin k → EReal) : EReal := Ideal.div (∑ j, e j * t j) (max (norm e * norm t) c)

/-- The number 1024 as a literal. -/
abbrev n1 : EReal := Ideal.ofBits .f32 0x44800000#32
/-- The number 512 as a literal. -/
abbrev n2 : EReal := Ideal.ofBits .f32 0x44000000#32
/-- The small number under the root of the layer normalizations. -/
abbrev eps : EReal := Ideal.ofBits .f32 0x3727C5AC#32
/-- The least divisor of the encoding. -/
abbrev c12 : EReal := Ideal.ofBits .f32 0x2B8CBCCC#32
/-- The least divisor of the similarities. -/
abbrev c8 : EReal := Ideal.ofBits .f32 0x322BCC77#32
/-- The least divisor of the kernel's last division. -/
abbrev c30 : EReal := Ideal.ofBits .f32 0x0DA24260#32

/-- A hidden layer: projection, layer normalization, activation. -/
def layer {n k : ℕ} (N : EReal) (x : Fin n → EReal) (W : Fin k → Fin n → EReal) (b g β : Fin k → EReal) (j : Fin k) : EReal :=
  gelu (normed N eps (lin x W b) g β j)

/-- The encoding of one row: two hidden layers and a projection. -/
def encRow (x : Fin 2048 → EReal) (W1 : Fin 1024 → Fin 2048 → EReal) (b1 g1 β1 : Fin 1024 → EReal)
    (W2 : Fin 512 → Fin 1024 → EReal) (b2 g2 β2 : Fin 512 → EReal) (W3 : Fin 128 → Fin 512 → EReal) (b3 : Fin 128 → EReal) :
    Fin 128 → EReal :=
  lin (layer n2 (layer n1 x W1 b1 g1 β1) W2 b2 g2 β2) W3 b3

/-- The literal one half. -/
theorem half : Ideal.ofBits .f32 0x3F000000#32 = ((2⁻¹ : ℝ) : EReal) := by
  simp [Ideal.ofBits, Ideal.ieee]
  rw [← EReal.coe_mul]
  norm_num

/-- The literal 2. -/
theorem two : Ideal.ofBits .f32 0x40000000#32 = ((2 : ℝ) : EReal) := by
  simp [Ideal.ofBits, Ideal.ieee]
  rw [← EReal.coe_mul]
  norm_num

/-- The literal 1024. -/
theorem n1_eq : n1 = ((1024 : ℝ) : EReal) := by
  simp [Ideal.ofBits, Ideal.ieee]
  rw [← EReal.coe_mul]
  norm_num

/-- The literal 512. -/
theorem n2_eq : n2 = ((512 : ℝ) : EReal) := by
  simp [Ideal.ofBits, Ideal.ieee]
  rw [← EReal.coe_mul]
  norm_num

/-- The least divisor of the encoding is a positive number. -/
theorem c12_pos : ∃ r : ℝ, 0 < r ∧ c12 = (r : EReal) := by
  refine ⟨9223372 * (2 ^ 63)⁻¹, by norm_num, ?_⟩
  simp [Ideal.ofBits, Ideal.ieee]

/-- The least divisor of the similarities is a positive number. -/
theorem c8_pos : ∃ r : ℝ, 0 < r ∧ c8 = (r : EReal) := by
  refine ⟨11258999 * (2 ^ 50)⁻¹, by norm_num, ?_⟩
  simp [Ideal.ofBits, Ideal.ieee]

/-- The least divisor of the last division is a positive number of at most one. -/
theorem c30_pos : ∃ r : ℝ, 0 < r ∧ r ≤ 1 ∧ c30 = (r : EReal) := by
  refine ⟨10633824 * (2 ^ 123)⁻¹, by norm_num, by norm_num, ?_⟩
  simp [Ideal.ofBits, Ideal.ieee]

/-- The root of 2 is the real root. -/
theorem sqrt_two : Ideal.sqrt 2 = ((Real.sqrt 2 : ℝ) : EReal) := by
  have h := Ideal.sqrt_coe 2
  rw [if_neg (by norm_num)] at h
  exact_mod_cast h

/-- The two forms of the activation agree. -/
theorem geluQ_eq (t : EReal) : geluQ t = gelu t := by
  have h2 : (2 : EReal) = ((2 : ℝ) : EReal) := rfl
  have hs : Real.sqrt 2 ≠ 0 := by positivity
  unfold geluQ gelu
  rw [sqrt_two, Ideal.div_coe hs, h2, Ideal.div_coe two_ne_zero, one_div (Real.sqrt 2)]
  rw [mul_comm _ ((1 / 2 : ℝ) : EReal), one_div, mul_assoc]

end Cert.Spec

end
-- ==== Proof.Payload.lean ====
/-
  The kernel's arrays read entry by entry, in the words of the plain functions: the two hidden layers, the encoding, the
  scaled encoding and its norms, the similarities of a block, and the steps that keep the better value and divide at the end.
-/
module

public import proofs.«01_k».proof.Proof.Cases
public import proofs.«01_k».proof.Proof.Spec

@[expose] public section

set_option maxRecDepth 16384

noncomputable section

namespace Cert.KernelIdeal.Slab

open Cert.KernelIdeal Cert.KernelIdeal.Gen Idealize.ShloMosaic Idealize.ShloMosaic.TcCoe Idealize.ShloMosaic.Tactic Cert.Spec

/-- The first hidden layer. -/
theorem pay6_at (x0 x1 : Vec Ideal S1024x2048 .f32) (x2 x3 x4 : Vec Ideal S1x1024 .f32) (b j : Fin 1024) :
    k0_pay6 x0 x1 x2 x3 x4 (ix2 b j)
      = layer n1 (fun k : Fin 2048 => x0 (ix2 b k)) (fun (j : Fin 1024) k => x1 (ix2 j k)) (fun j => x2 (ix2 0 j)) (fun j => x3 (ix2 0 j)) (fun j => x4 (ix2 0 j)) j := by
  pointwise [k0_pay6]
  rw [half]
  rfl

/-- The second hidden layer and the last product. -/
theorem pay7_at (h : Vec Ideal S1024x1024 .f32) (x5 : Vec Ideal S512x1024 .f32) (x6 x7 x8 : Vec Ideal S1x512 .f32) (x9 : Vec Ideal S128x512 .f32) (b : Fin 1024) (j : Fin 128) :
    k0_pay7 h x5 x6 x7 x8 x9 (ix2 b j)
      = ∑ e : Fin 512, layer n2 (fun k : Fin 1024 => h (ix2 b k)) (fun (j : Fin 512) k => x5 (ix2 j k)) (fun j => x6 (ix2 0 j)) (fun j => x7 (ix2 0 j)) (fun j => x8 (ix2 0 j)) e * x9 (ix2 j e) := by
  pointwise [k0_pay7]
  rw [half]
  rfl

/-- The scaled rows. -/
theorem pay9_at (x : Vec Ideal S1024x128 .f32) (e : Vec Ideal S1x128 .f32) (b : Fin 1024) (j : Fin 128) :
    k0_pay9 x e (ix2 b j) = Spec.unit c12 (fun j => x (ix2 b j) + e (ix2 0 j)) j := by
  pointwise [k0_pay9, k0_pay8]
  rfl

/-- The norms of the scaled rows. -/
theorem pay10_at (x : Vec Ideal S1024x128 .f32) (e : Vec Ideal S1x128 .f32) (b : Fin 1024) :
    k0_pay10 x e (ix2 0 b) = norm (Spec.unit c12 (fun j => x (ix2 b j) + e (ix2 0 j))) := by
  pointwise [k0_pay10, k0_pay8]
  rfl

/-- The similarities of a block, in the tiles of 625 by 8. -/
theorem pay11_at (x : Vec Ideal S5000x128 .f32) (e : Vec Ideal S1024x128 .f32) (q : Fin 625) (u : Fin 8) (b : Fin 1024) :
    k0_pay11 x e (ix3 q u b) = simK c8 (fun j => e (ix2 b j)) (fun j => x (ix2 ⟨q.val * 8 + u.val, by omega⟩ j)) := by
  pointwise [k0_pay11]
  rfl

/-- The similarities of a block, in the order of its rows. -/
theorem col_pay11 (x : Vec Ideal S5000x128 .f32) (e : Vec Ideal S1024x128 .f32) (i : ℕ) (hi : i < 5000) (b : Fin 1024) :
    col (k0_pay11 x e) b i = simK c8 (fun j => e (ix2 b j)) (fun j => x (ix2 ⟨i, hi⟩ j)) := by
  unfold col
  rw [pay11_at]
  have h : (⟨(Fin.ofNat 625 (i / 8)).val * 8 + (Fin.ofNat 8 (i % 8)).val, by omega⟩ : Fin 5000) = ⟨i, hi⟩ :=
    Fin.ext (by simp only [Fin.ofNat]; omega)
  rw [h]

/-- The kept value is the larger of the two. -/
theorem pay3_at (x e : Vec Ideal S1x1024 .f32) (b : Fin 1024) : k0_pay3 x e (ix2 0 b) = max (e (ix2 0 b)) (x (ix2 0 b)) := by
  pointwise [k0_pay3, k0_pay2, k0_pay1]
  rcases lt_or_ge (e (ix2 0 b)) (x (ix2 0 b)) with h | h
  · rw [if_pos h, max_eq_right h.le]
  · rw [if_neg h.not_gt, max_eq_left h]

/-- The kept row number goes with the kept value. -/
theorem pay4_at (x e : Vec Ideal S1x1024 .f32) (y z : IVec S1x1024 32) (b : Fin 1024) :
    k0_pay4 x y e z (ix2 0 b) = if e (ix2 0 b) < x (ix2 0 b) then y (ix2 0 b) else z (ix2 0 b) := by
  pointwise [k0_pay4, k0_pay2, k0_pay1]

/-- The last division. -/
theorem pay5_at (x e : Vec Ideal S1x1024 .f32) (b : Fin 1024) :
    k0_pay5 x e (ix2 0 b) = Ideal.div (x (ix2 0 b)) (max (e (ix2 0 b)) c30) := by
  pointwise [k0_pay5]

end Cert.KernelIdeal.Slab

end
-- ==== Proof.Blocks.lean ====
/-
  What the region finds in its windows: window 0 is the first time step of the sequences, windows 1 to 10 are the
  weights and the bias rows whole, window 11 at point `t` is the block of 5000 memory rows that starts at row `5000 t`.
-/
module

public import proofs.«01_k».proof.Proof.Gen.KernelIdeal.Frame
public import Idealize.ShloMosaic.Lib.Pointwise

@[expose] public section

set_option maxRecDepth 16384

noncomputable section

namespace Cert.KernelIdeal.Slab

open Cert.KernelIdeal Cert.KernelIdeal.Gen Idealize.ShloMosaic Idealize.ShloMosaic.TcCoe

/-- A block index of zeros starts at offset zero. -/
theorem offset_zero (s : Fin 2 → Nat) : (fun a => (![0, 0] : Fin 2 → Nat) a * s a) = fun _ => 0 :=
  funext fun a => by fin_cases a <;> exact Nat.zero_mul _

variable (m : (ℓ : Loc nD τ sig) → Buf (Elt Ideal) ℓ) (c : Dev nD)

/-- Window 0. -/
theorem block0 (t : Fin cfg0.N) : (iblk m c 0 t : Vec Ideal S1024x2048 .f32) = shapeCast S1024x2048 (extractStridedSlice S1024x1x2048 ![0, 0, 0] (m ((c : Thread nD τ).loc main_arg0)) slices_S1024x16x2048_S1024x1x2048_0_0_0) shapeCasts_S1024x1x2048_S1024x2048 :=
  (Memref.read_access_unit_zero (Elt Ideal) main_v1 (offset_zero _) _ _).trans (by unfold V; after_results; rfl)

/-- Window 1. -/
theorem block1 (t : Fin cfg0.N) : (iblk m c 1 t : Vec Ideal S1024x2048 .f32) = (m ((c : Thread nD τ).loc main_arg1)) :=
  (Memref.read_access_unit_zero (Elt Ideal) main_arg1 (offset_zero _) _ _).trans (V_main_arg1 m c)

/-- Window 2. -/
theorem block2 (t : Fin cfg0.N) : (iblk m c 2 t : Vec Ideal S1x1024 .f32) = shapeCast S1x1024 (m ((c : Thread nD τ).loc main_arg2)) shapeCasts_S1024_S1x1024 :=
  (Memref.read_access_unit_zero (Elt Ideal) main_v2 (offset_zero _) _ _).trans (by unfold V; after_results; rfl)

/-- Window 3. -/
theorem block3 (t : Fin cfg0.N) : (iblk m c 3 t : Vec Ideal S1x1024 .f32) = shapeCast S1x1024 (m ((c : Thread nD τ).loc main_arg3)) shapeCasts_S1024_S1x1024 :=
  (Memref.read_access_unit_zero (Elt Ideal) main_v3 (offset_zero _) _ _).trans (by unfold V; after_results; rfl)

/-- Window 4. -/
theorem block4 (t : Fin cfg0.N) : (iblk m c 4 t : Vec Ideal S1x1024 .f32) = shapeCast S1x1024 (m ((c : Thread nD τ).loc main_arg4)) shapeCasts_S1024_S1x1024 :=
  (Memref.read_access_unit_zero (Elt Ideal) main_v4 (offset_zero _) _ _).trans (by unfold V; after_results; rfl)

/-- Window 5. -/
theorem block5 (t : Fin cfg0.N) : (iblk m c 5 t : Vec Ideal S512x1024 .f32) = (m ((c : Thread nD τ).loc main_arg5)) :=
  (Memref.read_access_unit_zero (Elt Ideal) main_arg5 (offset_zero _) _ _).trans (V_main_arg5 m c)

/-- Window 6. -/
theorem block6 (t : Fin cfg0.N) : (iblk m c 6 t : Vec Ideal S1x512 .f32) = shapeCast S1x512 (m ((c : Thread nD τ).loc main_arg6)) shapeCasts_S512_S1x512 :=
  (Memref.read_access_unit_zero (Elt Ideal) main_v5 (offset_zero _) _ _).trans (by unfold V; after_results; rfl)

/-- Window 7. -/
theorem block7 (t : Fin cfg0.N) : (iblk m c 7 t : Vec Ideal S1x512 .f32) = shapeCast S1x512 (m ((c : Thread nD τ).loc main_arg7)) shapeCasts_S512_S1x512 :=
  (Memref.read_access_unit_zero (Elt Ideal) main_v6 (offset_zero _) _ _).trans (by unfold V; after_results; rfl)

/-- Window 8. -/
theorem block8 (t : Fin cfg0.N) : (iblk m c 8 t : Vec Ideal S1x512 .f32) = shapeCast S1x512 (m ((c : Thread nD τ).loc main_arg8)) shapeCasts_S512_S1x512 :=
  (Memref.read_access_unit_zero (Elt Ideal) main_v7 (offset_zero _) _ _).trans (by unfold V; after_results; rfl)

/-- Window 9. -/
theorem block9 (t : Fin cfg0.N) : (iblk m c 9 t : Vec Ideal S128x512 .f32) = (m ((c : Thread nD τ).loc main_arg9)) :=
  (Memref.read_access_unit_zero (Elt Ideal) main_arg9 (offset_zero _) _ _).trans (V_main_arg9 m c)

/-- Window 10. -/
theorem block10 (t : Fin cfg0.N) : (iblk m c 10 t : Vec Ideal S1x128 .f32) = shapeCast S1x128 (m ((c : Thread nD τ).loc main_arg10)) shapeCasts_S128_S1x128 :=
  (Memref.read_access_unit_zero (Elt Ideal) main_v8 (offset_zero _) _ _).trans (by unfold V; after_results; rfl)

/-- Window 11 at point `t`, row `r`: memory row `5000 t + r`. -/
theorem block11 (t : Fin cfg0.N) (r : Fin 5000) (j : Fin 128) :
    (iblk m c 11 t : Vec Ideal S5000x128 .f32) (ix2 r j)
      = m ((c : Thread nD τ).loc main_arg11) (ix2 (Fin.ofNat 100000 (5000 * t.val + r.val)) j) := by
  have ht : t.val < 20 := lt_of_lt_of_eq t.isLt N_0
  have e0 : (grid0.coords t 0).val = t.val / 1 % 20 := Pipeline.Grid.coords_val t 0 (by decide) rfl
  have hi : win0_11.index t 0 = t.val ∧ win0_11.index t 1 = 0 := by
    refine ⟨?_, rfl⟩
    show (BitVec.ofNat 32 (grid0.coords t 0).val).toNat = t.val
    rw [e0, BitVec.toNat_ofNat]
    omega
  unfold iblk
  rw [View.read_apply]
  show V m c main_arg11 _ = _
  rw [V_main_arg11]
  congr 1
  funext a
  apply Fin.ext
  have hr := r.isLt
  match a with
  | ⟨0, _⟩ =>
    show win0_11.index t 0 * 5000 + 1 * r.val = (5000 * t.val + r.val) % 100000
    rw [hi.1]; omega
  | ⟨1, _⟩ =>
    show win0_11.index t 1 * 128 + 1 * j.val = j.val
    rw [hi.2]; omega

/-- The grid coordinate of point `t`. -/
theorem coord (t : Fin cfg0.N) : (grid0.coords t 0).val = t.val := by
  have ht : t.val < 20 := lt_of_lt_of_eq t.isLt N_0
  have e0 : (grid0.coords t 0).val = t.val / 1 % 20 := Pipeline.Grid.coords_val t 0 (by decide) rfl
  omega

end Cert.KernelIdeal.Slab

end
-- ==== Proof.Steps.lean ====
/-
  What one point of the grid leaves, of what the point before left: the two results and the two scratch buffers.
-/
module

public import proofs.«01_k».proof.Proof.Payload
public import proofs.«01_k».proof.Proof.Blocks
public import proofs.«01_k».proof.Proof.Gen.KernelIdeal.Value

@[expose] public section

set_option maxRecDepth 16384

noncomputable section

namespace Cert.KernelIdeal.Slab

open Cert.KernelIdeal Cert.KernelIdeal.Gen Cert.KernelIdeal.Value Idealize.ShloMosaic Idealize.ShloMosaic.TcCoe Cert.Spec Cert.Best

variable (m : (ℓ : Loc nD τ sig) → Buf (Elt Ideal) ℓ) (c : Dev nD)

/-- The contents a point leaves: the two results and the two scratch buffers. -/
abbrev Left : Type := Vec Ideal S1x1024 .f32 × Vec Ideal S1x1024 .i32 × Vec Ideal S1024x128 .f32 × Vec Ideal S1x1024 .f32

/-- The scaled encoding of the blocks of a point. -/
def ptE (t : Fin cfg0.N) : Vec Ideal S1024x128 .f32 :=
  encE (iblk m c 0 t) (iblk m c 1 t) (iblk m c 2 t) (iblk m c 3 t) (iblk m c 4 t) (iblk m c 5 t) (iblk m c 6 t) (iblk m c 7 t) (iblk m c 8 t) (iblk m c 9 t) (iblk m c 10 t)

/-- The norms of the scaled encoding of the blocks of a point. -/
def ptN (t : Fin cfg0.N) : Vec Ideal S1x1024 .f32 :=
  encN (iblk m c 0 t) (iblk m c 1 t) (iblk m c 2 t) (iblk m c 3 t) (iblk m c 4 t) (iblk m c 5 t) (iblk m c 6 t) (iblk m c 7 t) (iblk m c 8 t) (iblk m c 9 t) (iblk m c 10 t)

/-- A group of contents, part by part. -/
theorem all_parts {α β γ δ : Type} {x : α × β × γ × δ} {a a' : α} {b b' : β} {d d' : γ} {e e' : δ} (h : x = (a, b, d, e)) (ha : a = a') (hb : b = b')
    (hd : d = d') (he : e = e') : x = (a', b', d', e') := by
  subst h ha hb hd he
  rfl

/-- The first point. -/
theorem step_first (t : Fin cfg0.N) (acc : Left) (h : t.val = 0) :
    stAt0 m c t.val t.isLt acc = (tileMax (k0_pay11 (iblk m c 11 t) (ptE m c t)),
      tileArg (BitVec.ofNat 32 (grid0.coords t 0).val) (k0_pay11 (iblk m c 11 t) (ptE m c t)), ptE m c t, ptN m c t) := by
  have hv := case_values c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _)
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) acc.1 acc.2.1 acc.2.2.1 acc.2.2.2
  have he := stAt0_A m c t acc (by omega) (by omega) (by omega) (by omega)
  obtain ⟨v1, v2, v3, v4, -⟩ := hv
  exact all_parts he (v3 _ _ _ _) (v4 _ _ _ _) (v1 _ _ _ _) (v2 _ _ _ _)

/-- A middle point. -/
theorem step_middle (t : Fin cfg0.N) (acc : Left) (h : t.val ≠ 0) (h' : t.val < 19) :
    stAt0 m c t.val t.isLt acc = (k0_pay3 (tileMax (k0_pay11 (iblk m c 11 t) acc.2.2.1)) acc.1,
      k0_pay4 (tileMax (k0_pay11 (iblk m c 11 t) acc.2.2.1)) (tileArg (BitVec.ofNat 32 (grid0.coords t 0).val) (k0_pay11 (iblk m c 11 t) acc.2.2.1)) acc.1 acc.2.1,
      acc.2.2.1, acc.2.2.2) := by
  have hv := case_values c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _)
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) acc.1 acc.2.1 acc.2.2.1 acc.2.2.2
  have he := stAt0_B m c t acc (by omega) (by omega) (by omega) (by omega)
  obtain ⟨-, -, -, -, v1, v2, -⟩ := hv
  exact all_parts he (v1 _ _ _ _) (v2 _ _ _ _) rfl rfl

/-- The first two parts of a group of contents. -/
theorem parts {α β γ : Type} {x : α × β × γ} {a a' : α} {b b' : β} {d : γ} (h : x = (a, b, d)) (ha : a = a') (hb : b = b') : x.1 = a' ∧ x.2.1 = b' := by
  subst h
  exact ⟨ha, hb⟩

/-- The last point. -/
theorem step_last (t : Fin cfg0.N) (acc : Left) (h : t.val = 19) :
    (stAt0 m c t.val t.isLt acc).1 = k0_pay5 (k0_pay3 (tileMax (k0_pay11 (iblk m c 11 t) acc.2.2.1)) acc.1) acc.2.2.2
    ∧ (stAt0 m c t.val t.isLt acc).2.1
      = k0_pay4 (tileMax (k0_pay11 (iblk m c 11 t) acc.2.2.1)) (tileArg (BitVec.ofNat 32 (grid0.coords t 0).val) (k0_pay11 (iblk m c 11 t) acc.2.2.1)) acc.1 acc.2.1 := by
  have hv := case_values c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _)
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) acc.1 acc.2.1 acc.2.2.1 acc.2.2.2
  have he := stAt0_C m c t acc (by omega) (by omega) (by omega) (by omega)
  obtain ⟨-, -, -, -, -, -, v1, v2⟩ := hv
  exact parts he (v1 _ _ _ _) (v2 _ _ _ _)

end Cert.KernelIdeal.Slab

end
-- ==== Proof.Grid.lean ====
/-
  The walk over the grid: after point `n` the two results hold, per batch row, the greatest similarity over the first
  `5000 (n + 1)` memory rows and the number of the first row that attains it, and the scratch buffers hold the scaled
  encoding and its norms; the last point divides the values by the kept norms.
-/
module

public import proofs.«01_k».proof.Proof.Steps

@[expose] public section

set_option maxRecDepth 16384

noncomputable section

namespace Cert.KernelIdeal.Slab

open Cert.KernelIdeal Cert.KernelIdeal.Gen Cert.KernelIdeal.Value Idealize.ShloMosaic Idealize.ShloMosaic.TcCoe Cert.Spec Cert.Best

variable (m : (ℓ : Loc nD τ sig) → Buf (Elt Ideal) ℓ) (c : Dev nD)

/-- The first point of the grid. -/
abbrev t0 : Fin cfg0.N := ⟨0, lt_of_lt_of_eq (by decide) N_0.symm⟩

/-- The similarities of batch row `b` with all memory rows, in their order. -/
def simRow (E : Vec Ideal S1024x128 .f32) (b : Fin 1024) (i : ℕ) : EReal :=
  simK c8 (fun j => E (ix2 b j)) (fun j => m ((c : Thread nD τ).loc main_arg11) (ix2 (Fin.ofNat 100000 i) j))

/-- The scan of the block of point `t`. -/
theorem block_best (E : Vec Ideal S1024x128 .f32) (t : Fin cfg0.N) (b : Fin 1024) :
    ∃ r, Best (fun i => simRow m c E b (5000 * t.val + i)) 5000 (tileMax (k0_pay11 (iblk m c 11 t) E) (ix2 0 b)) r
      ∧ tileArg (BitVec.ofNat 32 (grid0.coords t 0).val) (k0_pay11 (iblk m c 11 t) E) (ix2 0 b) = BitVec.ofNat 32 (5000 * t.val + r) := by
  rw [coord]
  obtain ⟨r, h, e⟩ := tile_best t.val (k0_pay11 (iblk m c 11 t) E) b
  refine ⟨r, h.congr fun i hi => ?_, e⟩
  rw [col_pay11 _ _ i hi]
  unfold simRow
  simp only [block11]

/-- What is known after a number of memory rows. -/
def Known (E : Vec Ideal S1024x128 .f32) (n : ℕ) (T : Vec Ideal S1x1024 .f32) (w : Vec Ideal S1x1024 .i32) : Prop :=
  ∀ b : Fin 1024, ∃ r, Best (simRow m c E b) n (T (ix2 0 b)) r ∧ w (ix2 0 b) = BitVec.ofNat 32 r

/-- One more block. -/
theorem known_step (E : Vec Ideal S1024x128 .f32) (t : Fin cfg0.N) (N : ℕ) (hN : t.val = N) (T : Vec Ideal S1x1024 .f32) (w : Vec Ideal S1x1024 .i32)
    (h : Known m c E (5000 * N) T w) :
    Known m c E (5000 * N + 5000) (k0_pay3 (tileMax (k0_pay11 (iblk m c 11 t) E)) T)
      (k0_pay4 (tileMax (k0_pay11 (iblk m c 11 t) E)) (tileArg (BitVec.ofNat 32 (grid0.coords t 0).val) (k0_pay11 (iblk m c 11 t) E)) T w) := by
  subst hN
  intro b
  obtain ⟨r, hr, er⟩ := h b
  obtain ⟨r', hr', er'⟩ := block_best m c E t b
  refine ⟨_, by rw [pay3_at]; exact hr.append hr', ?_⟩
  rw [pay4_at, er, er']
  split <;> rfl

/-- The fold up to a point before the last. -/
theorem walk (n : ℕ) (h : 0 + n < cfg0.N) (hn : n < 19) :
    (Pipeline.accAt (fun n h => stAt0 m c n h junk0) (stAt0 m c) 0 n h).2.2 = (ptE m c t0, ptN m c t0)
    ∧ Known m c (ptE m c t0) (5000 * n + 5000) (Pipeline.accAt (fun n h => stAt0 m c n h junk0) (stAt0 m c) 0 n h).1
        (Pipeline.accAt (fun n h => stAt0 m c n h junk0) (stAt0 m c) 0 n h).2.1 := by
  induction n with
  | zero =>
    rw [Pipeline.accAt_zero, step_first m c t0 junk0 rfl]
    refine ⟨rfl, fun b => ?_⟩
    obtain ⟨r, hr, er⟩ := block_best m c (ptE m c t0) t0 b
    refine ⟨r, ?_, ?_⟩
    · simpa using hr
    · simpa using er
  | succ n ih =>
    obtain ⟨e, k⟩ := ih (Nat.lt_of_succ_lt h) (by omega)
    rw [Pipeline.accAt_succ]
    generalize Pipeline.accAt (fun n h => stAt0 m c n h junk0) (stAt0 m c) 0 n (Nat.lt_of_succ_lt h) = acc at e k
    have hs : 0 + (n + 1) = n + 1 := Nat.zero_add _
    rw [step_middle m c ⟨0 + (n + 1), h⟩ acc (by show 0 + (n + 1) ≠ 0; omega) (by show 0 + (n + 1) < 19; omega)]
    have e1 : acc.2.2.1 = ptE m c t0 := congrArg Prod.fst e
    have e2 : acc.2.2.2 = ptN m c t0 := congrArg Prod.snd e
    refine ⟨Prod.ext e1 e2, ?_⟩
    dsimp only
    rw [e1]
    exact known_step m c (ptE m c t0) ⟨0 + (n + 1), h⟩ (n + 1) hs acc.1 acc.2.1 k

/-- The results of the run, per batch row: the greatest similarity over all memory rows divided by the row's kept norm,
    and the number of the first row that attains it. -/
theorem results (b : Fin 1024) : ∃ T r, Best (simRow m c (ptE m c t0) b) 100000 T r
    ∧ G12 m c (ix2 0 b) = Ideal.div T (max (ptN m c t0 (ix2 0 b)) c30) ∧ G13 m c (ix2 0 b) = BitVec.ofNat 32 r := by
  rw [G12_last, G13_last, Pipeline.accAt_succ]
  have h18 : 0 + 18 < cfg0.N := lt_of_lt_of_eq (by decide) N_0.symm
  obtain ⟨e, k⟩ := walk m c 18 h18 (by decide)
  generalize Pipeline.accAt (fun n h => stAt0 m c n h junk0) (stAt0 m c) 0 18 _ = acc at e k
  have e1 : acc.2.2.1 = ptE m c t0 := congrArg Prod.fst e
  have e2 : acc.2.2.2 = ptN m c t0 := congrArg Prod.snd e
  obtain ⟨s1, s2⟩ := step_last m c ⟨19, lt_of_lt_of_eq (by decide) N_0.symm⟩ acc rfl
  obtain ⟨r, hr, er⟩ := known_step m c (ptE m c t0) ⟨19, lt_of_lt_of_eq (by decide) N_0.symm⟩ 19 rfl acc.1 acc.2.1 k b
  refine ⟨_, r, hr, ?_, ?_⟩
  · refine (congrFun s1 _).trans ?_
    rw [pay5_at, e1, e2]
  · refine (congrFun s2 _).trans ?_
    rw [e1]
    exact er

end Cert.KernelIdeal.Slab

end
-- ==== Proof.Enc.lean ====
/-
  The encoding that the first point of the grid computes, in terms of the arguments.
-/
module

public import proofs.«01_k».proof.Proof.Payload
public import proofs.«01_k».proof.Proof.Blocks

@[expose] public section

set_option maxRecDepth 16384

noncomputable section

namespace Cert.KernelIdeal.Slab

open Cert.KernelIdeal Cert.KernelIdeal.Gen Idealize.ShloMosaic Idealize.ShloMosaic.TcCoe Idealize.ShloMosaic.Tactic Cert.Spec

/-- The first time step of the sequences. -/
theorem first_step (a : Vec Ideal S1024x16x2048 .f32) (b : Fin 1024) (k : Fin 2048) :
    shapeCast S1024x2048 (extractStridedSlice S1024x1x2048 ![0, 0, 0] a slices_S1024x16x2048_S1024x1x2048_0_0_0) shapeCasts_S1024x1x2048_S1024x2048 (ix2 b k) = a (ix3 b 0 k) := by
  pointwise

/-- A bias of 1024 entries as a single row. -/
theorem row1024 (a : Vec Ideal S1024 .f32) (j : Fin 1024) : shapeCast S1x1024 a shapeCasts_S1024_S1x1024 (ix2 0 j) = a (ix1 j) := by
  pointwise

/-- A bias of 512 entries as a single row. -/
theorem row512 (a : Vec Ideal S512 .f32) (j : Fin 512) : shapeCast S1x512 a shapeCasts_S512_S1x512 (ix2 0 j) = a (ix1 j) := by
  pointwise

/-- A bias of 128 entries as a single row. -/
theorem row128 (a : Vec Ideal S128 .f32) (j : Fin 128) : shapeCast S1x128 a shapeCasts_S128_S1x128 (ix2 0 j) = a (ix1 j) := by
  pointwise

/-- The last layer with its bias, at a batch row. -/
theorem encDot_at (x0 : Vec Ideal S1024x2048 .f32) (x1 : Vec Ideal S1024x2048 .f32) (x2 x3 x4 : Vec Ideal S1x1024 .f32)
    (x5 : Vec Ideal S512x1024 .f32) (x6 x7 x8 : Vec Ideal S1x512 .f32) (x9 : Vec Ideal S128x512 .f32) (x10 : Vec Ideal S1x128 .f32) (b : Fin 1024) :
    (fun j : Fin 128 => encDot x0 x1 x2 x3 x4 x5 x6 x7 x8 x9 (ix2 b j) + x10 (ix2 0 j))
      = encRow (fun k => x0 (ix2 b k)) (fun j k => x1 (ix2 j k)) (fun j => x2 (ix2 0 j)) (fun j => x3 (ix2 0 j)) (fun j => x4 (ix2 0 j))
          (fun j k => x5 (ix2 j k)) (fun j => x6 (ix2 0 j)) (fun j => x7 (ix2 0 j)) (fun j => x8 (ix2 0 j)) (fun j k => x9 (ix2 j k)) (fun j => x10 (ix2 0 j)) := by
  funext j
  unfold encDot
  rw [pay7_at]
  simp only [pay6_at]
  rfl

variable (m : (ℓ : Loc nD τ sig) → Buf (Elt Ideal) ℓ) (c : Dev nD)

/-- The encoding of a batch row, of the arguments. -/
def encZ (b : Fin 1024) : Fin 128 → EReal :=
  encRow (fun k : Fin 2048 => (m ((c : Thread nD τ).loc main_arg0) : Vec Ideal S1024x16x2048 .f32) (ix3 b 0 k))
    (fun (j : Fin 1024) k => (m ((c : Thread nD τ).loc main_arg1) : Vec Ideal S1024x2048 .f32) (ix2 j k))
    (fun j => (m ((c : Thread nD τ).loc main_arg2) : Vec Ideal S1024 .f32) (ix1 j))
    (fun j => (m ((c : Thread nD τ).loc main_arg3) : Vec Ideal S1024 .f32) (ix1 j))
    (fun j => (m ((c : Thread nD τ).loc main_arg4) : Vec Ideal S1024 .f32) (ix1 j))
    (fun (j : Fin 512) k => (m ((c : Thread nD τ).loc main_arg5) : Vec Ideal S512x1024 .f32) (ix2 j k))
    (fun j => (m ((c : Thread nD τ).loc main_arg6) : Vec Ideal S512 .f32) (ix1 j))
    (fun j => (m ((c : Thread nD τ).loc main_arg7) : Vec Ideal S512 .f32) (ix1 j))
    (fun j => (m ((c : Thread nD τ).loc main_arg8) : Vec Ideal S512 .f32) (ix1 j))
    (fun (j : Fin 128) k => (m ((c : Thread nD τ).loc main_arg9) : Vec Ideal S128x512 .f32) (ix2 j k))
    (fun j => (m ((c : Thread nD τ).loc main_arg10) : Vec Ideal S128 .f32) (ix1 j))

/-- What the blocks of a point encode to. -/
theorem blocks_at (t : Fin cfg0.N) (b : Fin 1024) :
    (fun j : Fin 128 => encDot (iblk m c 0 t) (iblk m c 1 t) (iblk m c 2 t) (iblk m c 3 t) (iblk m c 4 t) (iblk m c 5 t) (iblk m c 6 t) (iblk m c 7 t) (iblk m c 8 t) (iblk m c 9 t) (ix2 b j)
      + (iblk m c 10 t : Vec Ideal S1x128 .f32) (ix2 0 j)) = encZ m c b := by
  refine (encDot_at _ _ _ _ _ _ _ _ _ _ _ b).trans ?_
  unfold encZ
  congr 1
  · exact funext fun k => (congrFun (block0 m c t) _).trans (first_step _ b k)
  · exact funext fun j => funext fun k => congrFun (block1 m c t) _
  · exact funext fun j => (congrFun (block2 m c t) _).trans (row1024 _ j)
  · exact funext fun j => (congrFun (block3 m c t) _).trans (row1024 _ j)
  · exact funext fun j => (congrFun (block4 m c t) _).trans (row1024 _ j)
  · exact funext fun j => funext fun k => congrFun (block5 m c t) _
  · exact funext fun j => (congrFun (block6 m c t) _).trans (row512 _ j)
  · exact funext fun j => (congrFun (block7 m c t) _).trans (row512 _ j)
  · exact funext fun j => (congrFun (block8 m c t) _).trans (row512 _ j)
  · exact funext fun j => funext fun k => congrFun (block9 m c t) _
  · exact funext fun j => (congrFun (block10 m c t) _).trans (row128 _ j)

/-- The scaled encoding of the blocks of a point. -/
theorem encE_blocks (t : Fin cfg0.N) (b : Fin 1024) (j : Fin 128) :
    encE (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 b j)
      = Spec.unit c12 (encZ m c b) j := by
  unfold encE
  rw [pay9_at, blocks_at]

/-- The norms of the scaled encoding of the blocks of a point. -/
theorem encN_blocks (t : Fin cfg0.N) (b : Fin 1024) :
    encN (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 0 b)
      = norm (Spec.unit c12 (encZ m c b)) := by
  unfold encN
  rw [pay10_at, blocks_at]

end Cert.KernelIdeal.Slab

end
-- ==== Proof.Equate.lean ====
/-
  Why the two ways of computing the similarities agree: a row whose norm is zero or infinite scales to zeros, any other row
  whose norm reaches the least divisor scales to a row of norm one.
-/
module

public import proofs.«01_k».proof.Proof.Spec
public import proofs.«01_k».proof.Proof.Best

@[expose] public section

noncomputable section

namespace Cert.Spec

open Idealize.ShloMosaic Cert.Best

/-- A square is not negative. -/
theorem square_nonneg (x : EReal) : 0 ≤ x * x := by
  rcases le_total 0 x with h | h
  · exact mul_nonneg h h
  · have := mul_nonneg (EReal.neg_nonneg.mpr h) (EReal.neg_nonneg.mpr h)
    simpa using this

/-- A finite sum of squares is of numbers that are finite. -/
theorem finite_of_squares {k : ℕ} (z : Fin k → EReal) (h : ∑ j, z j * z j ≠ ⊤) : ∃ x : Fin k → ℝ, ∀ j, z j = (x j : EReal) := by
  refine ⟨fun j => (z j).toReal, fun j => (EReal.coe_toReal ?_ ?_).symm⟩
  · intro hj
    refine h (top_le_iff.mp ?_)
    have := Finset.single_le_sum (f := fun j => z j * z j) (fun i _ => square_nonneg (z i)) (Finset.mem_univ j)
    simpa [hj] using this
  · intro hj
    refine h (top_le_iff.mp ?_)
    have := Finset.single_le_sum (f := fun j => z j * z j) (fun i _ => square_nonneg (z i)) (Finset.mem_univ j)
    simpa [hj] using this

/-- The norm of a row of reals. -/
theorem norm_coe {k : ℕ} (x : Fin k → ℝ) : norm (fun j => (x j : EReal)) = ((Real.sqrt (∑ j, x j * x j) : ℝ) : EReal) := by
  have hs : (∑ j, (x j : EReal) * (x j : EReal)) = ((∑ j, x j * x j : ℝ) : EReal) := by
    simp only [← EReal.coe_mul]
    exact (map_sum (⟨⟨Real.toEReal, EReal.coe_zero⟩, EReal.coe_add⟩ : ℝ →+ EReal) _ _).symm
  unfold norm
  rw [hs, Ideal.sqrt_coe, if_neg (not_lt.mpr (Finset.sum_nonneg fun j _ => mul_self_nonneg (x j)))]

/-- The scaled row is zero or has norm one. -/
theorem unit_cases {k : ℕ} (z : Fin k → EReal) (h : c12 ≤ norm z ∨ norm z = 0) :
    (∀ j, unit c12 z j = 0) ∨ norm (unit c12 z) = 1 := by
  obtain ⟨c, hc, ec⟩ := c12_pos
  by_cases hS : ∑ j, z j * z j = ⊤
  · left
    intro j
    have hn : norm z = ⊤ := by unfold norm; rw [hS, Ideal.sqrt_top]
    unfold unit
    rw [hn, max_eq_left le_top, Ideal.div, if_neg EReal.top_ne_zero, EReal.inv_top, mul_zero]
  · obtain ⟨x, hx⟩ := finite_of_squares z hS
    obtain rfl : z = fun j => (x j : EReal) := funext hx
    set S : ℝ := ∑ j, x j * x j with hSd
    have hS0 : 0 ≤ S := Finset.sum_nonneg fun j _ => mul_self_nonneg (x j)
    rw [norm_coe, ← hSd, ec] at h
    rcases h with h | h
    · right
      have hn : c ≤ Real.sqrt S := EReal.coe_le_coe_iff.mp h
      have hpos : 0 < Real.sqrt S := lt_of_lt_of_le hc hn
      have hu : unit c12 (fun j => (x j : EReal)) = fun j => ((x j * (1 / Real.sqrt S) : ℝ) : EReal) := by
        funext j
        unfold unit
        rw [norm_coe, ← hSd, ec, max_eq_left h, Ideal.div_coe hpos.ne', ← EReal.coe_mul]
      rw [hu, norm_coe]
      have hone : ∑ j, x j * (1 / Real.sqrt S) * (x j * (1 / Real.sqrt S)) = 1 := by
        have : ∀ j, x j * (1 / Real.sqrt S) * (x j * (1 / Real.sqrt S)) = x j * x j * (1 / Real.sqrt S * (1 / Real.sqrt S)) := fun j => by ring
        simp only [this]
        rw [← Finset.sum_mul, ← hSd]
        have hq : Real.sqrt S * Real.sqrt S = S := Real.mul_self_sqrt hS0
        field_simp
        nlinarith
      rw [hone, Real.sqrt_one]
      rfl
    · left
      have h0 : Real.sqrt S = 0 := by exact_mod_cast h
      have hS1 : S = 0 := le_antisymm (Real.sqrt_eq_zero'.mp h0) hS0
      intro j
      have hj : x j * x j = 0 := (Finset.sum_eq_zero_iff_of_nonneg fun j _ => mul_self_nonneg (x j)).mp hS1 j (Finset.mem_univ j)
      have hj' : x j = 0 := mul_self_eq_zero.mp hj
      unfold unit
      rw [norm_coe, ← hSd, h0, ec, max_eq_right (by exact_mod_cast hc.le), Ideal.div_coe hc.ne']
      simp [hj']

/-- The least divisor is positive, so a quotient by a number that reaches it is a product by the inverse. -/
theorem div_max (x n : EReal) : Ideal.div x (max n c8) = x * (max n c8)⁻¹ := by
  obtain ⟨c, hc, ec⟩ := c8_pos
  have h : (0 : EReal) < max n c8 := lt_of_lt_of_le (by rw [ec]; exact_mod_cast hc) (le_max_right _ _)
  rw [Ideal.div, if_neg h.ne']

/-- A row of zeros has similarity zero with every row, computed either way. -/
theorem sims_zero {k : ℕ} (e t : Fin k → EReal) (he : ∀ j, e j = 0) : simK c8 e t = 0 ∧ simR c8 e t = 0 := by
  unfold simK simR
  rw [div_max, div_max]
  simp [he]

/-- With a row of norm one the two computations agree. -/
theorem sims_one {k : ℕ} (e t : Fin k → EReal) (he : norm e = 1) : simK c8 e t = simR c8 e t := by
  unfold simK simR
  rw [he, one_mul, div_max, div_max, one_mul]
  simp only [mul_comm (e _)]

/-- The greatest similarity and its first place agree: the kernel divides its greatest value by the norm of the scaled row. -/
theorem results_agree {k N : ℕ} (z : Fin k → EReal) (t : ℕ → Fin k → EReal) (h : c12 ≤ norm z ∨ norm z = 0) {T T' : EReal} {r r' : ℕ}
    (hK : Best (fun i => simK c8 (unit c12 z) (t i)) N T r) (hR : Best (fun i => simR c8 (unit c12 z) (t i)) N T' r') :
    Ideal.div T (max (norm (unit c12 z)) c30) = T' ∧ r = r' := by
  obtain ⟨c, hc, hc1, ec⟩ := c30_pos
  have hsame : ∀ i, simR c8 (unit c12 z) (t i) = simK c8 (unit c12 z) (t i) := fun i => by
    rcases unit_cases z h with h0 | h1
    · obtain ⟨a, b⟩ := sims_zero (unit c12 z) (t i) h0
      rw [a, b]
    · exact (sims_one _ _ h1).symm
  obtain ⟨eT, er⟩ := (hK.congr fun i _ => hsame i).unique hR
  refine ⟨?_, er⟩
  rw [← eT]
  rcases unit_cases z h with h0 | h1
  · have hT : T = 0 := hK.eq.symm.trans (sims_zero (unit c12 z) (t r) h0).1
    have hpos : (0 : EReal) < max (norm (unit c12 z)) c30 := lt_of_lt_of_le (by rw [ec]; exact_mod_cast hc) (le_max_right _ _)
    rw [hT, Ideal.div, if_neg hpos.ne', zero_mul]
  · have hm : max (1 : EReal) c30 = ((1 : ℝ) : EReal) := by
      rw [ec]
      exact max_eq_left (by exact_mod_cast hc1)
    rw [h1, hm, Ideal.div_coe one_ne_zero]
    simp

end Cert.Spec

end
-- ==== Proof.RefOps.lean ====
/-
  The reference's @main as a list of operations, cut into sixteen stretches, each of which computes one quantity of the
  reference (a projection, a mean, a variance, …). `run` says that every execution ends with each buffer at what the
  operations, applied in order to the launch contents, leave there.
-/
module

public import proofs.«01_k».proof.Proof.Gen.ReferenceIdeal
public import Idealize.ShloMosaic.Lib.StableHlo.Run
public import Idealize.ShloMosaic.PureOps.Ideal

@[expose] public section

set_option maxRecDepth 8192
set_option Elab.async false

noncomputable section

namespace Cert.ReferenceIdeal.Stage

open Cert.ReferenceIdeal Cert.ReferenceIdeal.Gen Idealize.ShloMosaic Idealize.ShloMosaic.StableHlo Idealize.ShloMosaic.TcCoe Idealize.SL.Sem

variable {F : FTy → Type} [FloatOps F]

/-- The first projection. -/
abbrev opsA : List (HloOp τ sig (Elt F)) :=
  [ unary main_arg0 main_v0 ((extractStridedSlice S1024x1x2048 ![0, 0, 0] · slices_S1024x16x2048_S1024x1x2048_0_0_0) : (⟨S1024x16x2048, .f32⟩ : BufTy).Contents (Elt F) → (⟨S1024x1x2048, .f32⟩ : BufTy).Contents (Elt F)),
    reshape main_v0 main_v1 (rfl : (.f32 : EltTy) = .f32) shapeCasts_S1024x1x2048_S1024x2048,
    unary main_arg1 main_v2 ((transpose S2048x1024 [1, 0] · transposes_S1024x2048_S2048x1024_1_0) : (⟨S1024x2048, .f32⟩ : BufTy).Contents (Elt F) → (⟨S2048x1024, .f32⟩ : BufTy).Contents (Elt F)),
    binary main_v1 main_v2 main_v3 ((fun l r => Host.dotGeneral dot_S1024x2048_S2048x1024_S1024x1024_1_0_0_1_n_n none l r) : (⟨S1024x2048, .f32⟩ : BufTy).Contents (Elt F) → (⟨S2048x1024, .f32⟩ : BufTy).Contents (Elt F) → (⟨S1024x1024, .f32⟩ : BufTy).Contents (Elt F)),
    unary main_arg2 main_v4 (broadcastInDim S1x1024 ![1] bcast_S1024_S1x1024_1 : (⟨S1024, .f32⟩ : BufTy).Contents (Elt F) → (⟨S1x1024, .f32⟩ : BufTy).Contents (Elt F)),
    unary main_v4 main_v5 (broadcastInDim S1024x1024 ![0, 1] bcast_S1x1024_S1024x1024_0_1 : (⟨S1x1024, .f32⟩ : BufTy).Contents (Elt F) → (⟨S1024x1024, .f32⟩ : BufTy).Contents (Elt F)),
    binary main_v3 main_v5 main_v6 (addf : (⟨S1024x1024, .f32⟩ : BufTy).Contents (Elt F) → (⟨S1024x1024, .f32⟩ : BufTy).Contents (Elt F) → (⟨S1024x1024, .f32⟩ : BufTy).Contents (Elt F)) ]

/-- The buffers that `opsA` writes. -/
abbrev outA : List (Ref sig .tc) := [main_v0, main_v1, main_v2, main_v3, main_v4, main_v5, main_v6]

/-- Its row means. -/
abbrev opsB : List (HloOp τ sig (Elt F)) :=
  [ nullary main_cst (constant S_ .f32 0x00000000#32),
    binary main_v6 main_cst main_v7 ((fun x v => Host.reduceAdd x v reducesTo_S1024x1024_S1024_d1 h_S_) : (⟨S1024x1024, .f32⟩ : BufTy).Contents (Elt F) → (⟨S_, .f32⟩ : BufTy).Contents (Elt F) → (⟨S1024, .f32⟩ : BufTy).Contents (Elt F)),
    unary main_v7 main_v8 (broadcastInDim S1024x1 ![0] bcast_S1024_S1024x1_0 : (⟨S1024, .f32⟩ : BufTy).Contents (Elt F) → (⟨S1024x1, .f32⟩ : BufTy).Contents (Elt F)),
    nullary main_cst_0 (constant S_ .f32 0x44800000#32),
    unary main_cst_0 main_v9 (broadcastInDim S1024x1 ![] bcast_S_S1024x1 : (⟨S_, .f32⟩ : BufTy).Contents (Elt F) → (⟨S1024x1, .f32⟩ : BufTy).Contents (Elt F)),
    binary main_v8 main_v9 main_v10 (Host.divf : (⟨S1024x1, .f32⟩ : BufTy).Contents (Elt F) → (⟨S1024x1, .f32⟩ : BufTy).Contents (Elt F) → (⟨S1024x1, .f32⟩ : BufTy).Contents (Elt F)),
    nullary main_c (constantI S_ 32 0#32) ]

/-- The buffers that `opsB` writes. -/
abbrev outB : List (Ref sig .tc) := [main_cst, main_v7, main_v8, main_cst_0, main_v9, main_v10, main_c]

/-- Its row variances. -/
abbrev opsC : List (HloOp τ sig (Elt F)) :=
  [ TRef.nullary (.of main_call0_cst : TRef sig ⟨S_, .f32⟩) (constant S_ .f32 0x00000000#32),
    TRef.binary (.of main_v6 : TRef sig ⟨S1024x1024, .f32⟩) (.of main_call0_cst : TRef sig ⟨S_, .f32⟩) (.of main_call0_v0 : TRef sig ⟨S1024, .f32⟩) (fun x v => Host.reduceAdd x v reducesTo_S1024x1024_S1024_d1 h_S_),
    TRef.unary (.of main_call0_v0 : TRef sig ⟨S1024, .f32⟩) (.of main_call0_v1 : TRef sig ⟨S1024x1, .f32⟩) (broadcastInDim S1024x1 ![0] bcast_S1024_S1024x1_0),
    TRef.nullary (.of main_call0_cst_0 : TRef sig ⟨S_, .f32⟩) (constant S_ .f32 0x44800000#32),
    TRef.unary (.of main_call0_cst_0 : TRef sig ⟨S_, .f32⟩) (.of main_call0_v2 : TRef sig ⟨S1024x1, .f32⟩) (broadcastInDim S1024x1 ![] bcast_S_S1024x1),
    TRef.binary (.of main_call0_v1 : TRef sig ⟨S1024x1, .f32⟩) (.of main_call0_v2 : TRef sig ⟨S1024x1, .f32⟩) (.of main_call0_v3 : TRef sig ⟨S1024x1, .f32⟩) Host.divf,
    TRef.unary (.of main_call0_v3 : TRef sig ⟨S1024x1, .f32⟩) (.of main_call0_v4 : TRef sig ⟨S1024x1024, .f32⟩) (broadcastInDim S1024x1024 ![0, 1] bcast_S1024x1_S1024x1024_0_1),
    TRef.binary (.of main_v6 : TRef sig ⟨S1024x1024, .f32⟩) (.of main_call0_v4 : TRef sig ⟨S1024x1024, .f32⟩) (.of main_call0_v5 : TRef sig ⟨S1024x1024, .f32⟩) subf,
    TRef.binary (.of main_call0_v5 : TRef sig ⟨S1024x1024, .f32⟩) (.of main_call0_v5 : TRef sig ⟨S1024x1024, .f32⟩) (.of main_call0_v6 : TRef sig ⟨S1024x1024, .f32⟩) mulf,
    TRef.unary (.of main_c : TRef sig ⟨S_, .i32⟩) (.of main_call0_v7 : TRef sig ⟨S_, .f32⟩) (sitofp .f32),
    TRef.nullary (.of main_call0_cst_1 : TRef sig ⟨S_, .f32⟩) (constant S_ .f32 0x44800000#32),
    TRef.binary (.of main_call0_cst_1 : TRef sig ⟨S_, .f32⟩) (.of main_call0_v7 : TRef sig ⟨S_, .f32⟩) (.of main_call0_v8 : TRef sig ⟨S_, .f32⟩) subf,
    TRef.nullary (.of main_call0_cst_2 : TRef sig ⟨S_, .f32⟩) (constant S_ .f32 0x00000000#32),
    TRef.binary (.of main_call0_v6 : TRef sig ⟨S1024x1024, .f32⟩) (.of main_call0_cst_2 : TRef sig ⟨S_, .f32⟩) (.of main_call0_v9 : TRef sig ⟨S1024, .f32⟩) (fun x v => Host.reduceAdd x v reducesTo_S1024x1024_S1024_d1 h_S_),
    TRef.unary (.of main_call0_v9 : TRef sig ⟨S1024, .f32⟩) (.of main_call0_v10 : TRef sig ⟨S1024x1, .f32⟩) (broadcastInDim S1024x1 ![0] bcast_S1024_S1024x1_0),
    TRef.unary (.of main_call0_v8 : TRef sig ⟨S_, .f32⟩) (.of main_call0_v11 : TRef sig ⟨S1024x1, .f32⟩) (broadcastInDim S1024x1 ![] bcast_S_S1024x1),
    TRef.binary (.of main_call0_v10 : TRef sig ⟨S1024x1, .f32⟩) (.of main_call0_v11 : TRef sig ⟨S1024x1, .f32⟩) (.of main_call0_v12 : TRef sig ⟨S1024x1, .f32⟩) Host.divf,
    TRef.nullary (.of main_call0_cst_3 : TRef sig ⟨S_, .f32⟩) (constant S_ .f32 0x00000000#32),
    TRef.binary (.of main_call0_v8 : TRef sig ⟨S_, .f32⟩) (.of main_call0_cst_3 : TRef sig ⟨S_, .f32⟩) (.of main_call0_v13 : TRef sig ⟨S_, .i1⟩) (cmpf .ogt),
    TRef.nullary (.of main_call0_cst_4 : TRef sig ⟨S_, .f32⟩) (constant S_ .f32 0x7FC00000#32),
    TRef.unary (.of main_call0_cst_4 : TRef sig ⟨S_, .f32⟩) (.of main_call0_call0_v0 : TRef sig ⟨S_, .f32⟩) id,
    TRef.unary (.of main_call0_call0_v0 : TRef sig ⟨S_, .f32⟩) (.of main_call0_call0_v1 : TRef sig ⟨S1024x1, .f32⟩) (broadcastInDim S1024x1 ![] bcast_S_S1024x1),
    TRef.ternary (.of main_call0_v13 : TRef sig ⟨S_, .i1⟩) (.of main_call0_v12 : TRef sig ⟨S1024x1, .f32⟩) (.of main_call0_call0_v1 : TRef sig ⟨S1024x1, .f32⟩) (.of main_v11 : TRef sig ⟨S1024x1, .f32⟩) (fun p a b => select (broadcastInDim S1024x1 ![] bcast_S_S1024x1 p) a b) ]

/-- The buffers that `opsC` writes. -/
abbrev outC : List (Ref sig .tc) := [main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_v12, main_call0_cst_3, main_call0_v13, main_call0_cst_4, main_call0_call0_v0, main_call0_call0_v1, main_v11]

/-- The first layer normalization. -/
abbrev opsD : List (HloOp τ sig (Elt F)) :=
  [ unary main_v10 main_v12 (broadcastInDim S1024x1024 ![0, 1] bcast_S1024x1_S1024x1024_0_1 : (⟨S1024x1, .f32⟩ : BufTy).Contents (Elt F) → (⟨S1024x1024, .f32⟩ : BufTy).Contents (Elt F)),
    binary main_v6 main_v12 main_v13 (subf : (⟨S1024x1024, .f32⟩ : BufTy).Contents (Elt F) → (⟨S1024x1024, .f32⟩ : BufTy).Contents (Elt F) → (⟨S1024x1024, .f32⟩ : BufTy).Contents (Elt F)),
    nullary main_cst_1 (constant S_ .f32 0x3727C5AC#32),
    unary main_cst_1 main_v14 (broadcastInDim S1024x1 ![] bcast_S_S1024x1 : (⟨S_, .f32⟩ : BufTy).Contents (Elt F) → (⟨S1024x1, .f32⟩ : BufTy).Contents (Elt F)),
    binary main_v11 main_v14 main_v15 (addf : (⟨S1024x1, .f32⟩ : BufTy).Contents (Elt F) → (⟨S1024x1, .f32⟩ : BufTy).Contents (Elt F) → (⟨S1024x1, .f32⟩ : BufTy).Contents (Elt F)),
    unary main_v15 main_v16 (Host.sqrt : (⟨S1024x1, .f32⟩ : BufTy).Contents (Elt F) → (⟨S1024x1, .f32⟩ : BufTy).Contents (Elt F)),
    unary main_v16 main_v17 (broadcastInDim S1024x1024 ![0, 1] bcast_S1024x1_S1024x1024_0_1 : (⟨S1024x1, .f32⟩ : BufTy).Contents (Elt F) → (⟨S1024x1024, .f32⟩ : BufTy).Contents (Elt F)),
    binary main_v13 main_v17 main_v18 (Host.divf : (⟨S1024x1024, .f32⟩ : BufTy).Contents (Elt F) → (⟨S1024x1024, .f32⟩ : BufTy).Contents (Elt F) → (⟨S1024x1024, .f32⟩ : BufTy).Contents (Elt F)),
    unary main_arg3 main_v19 (broadcastInDim S1x1024 ![1] bcast_S1024_S1x1024_1 : (⟨S1024, .f32⟩ : BufTy).Contents (Elt F) → (⟨S1x1024, .f32⟩ : BufTy).Contents (Elt F)),
    unary main_v19 main_v20 (broadcastInDim S1024x1024 ![0, 1] bcast_S1x1024_S1024x1024_0_1 : (⟨S1x1024, .f32⟩ : BufTy).Contents (Elt F) → (⟨S1024x1024, .f32⟩ : BufTy).Contents (Elt F)),
    binary main_v18 main_v20 main_v21 (mulf : (⟨S1024x1024, .f32⟩ : BufTy).Contents (Elt F) → (⟨S1024x1024, .f32⟩ : BufTy).Contents (Elt F) → (⟨S1024x1024, .f32⟩ : BufTy).Contents (Elt F)),
    unary main_arg4 main_v22 (broadcastInDim S1x1024 ![1] bcast_S1024_S1x1024_1 : (⟨S1024, .f32⟩ : BufTy).Contents (Elt F) → (⟨S1x1024, .f32⟩ : BufTy).Contents (Elt F)),
    unary main_v22 main_v23 (broadcastInDim S1024x1024 ![0, 1] bcast_S1x1024_S1024x1024_0_1 : (⟨S1x1024, .f32⟩ : BufTy).Contents (Elt F) → (⟨S1024x1024, .f32⟩ : BufTy).Contents (Elt F)),
    binary main_v21 main_v23 main_v24 (addf : (⟨S1024x1024, .f32⟩ : BufTy).Contents (Elt F) → (⟨S1024x1024, .f32⟩ : BufTy).Contents (Elt F) → (⟨S1024x1024, .f32⟩ : BufTy).Contents (Elt F)) ]

/-- The buffers that `opsD` writes. -/
abbrev outD : List (Ref sig .tc) := [main_v12, main_v13, main_cst_1, main_v14, main_v15, main_v16, main_v17, main_v18, main_v19, main_v20, main_v21, main_v22, main_v23, main_v24]

/-- The first activation. -/
abbrev opsE : List (HloOp τ sig (Elt F)) :=
  [ nullary main_cst_2 (constant S_ .f32 0x40000000#32),
    unary main_cst_2 main_v25 (Host.sqrt : (⟨S_, .f32⟩ : BufTy).Contents (Elt F) → (⟨S_, .f32⟩ : BufTy).Contents (Elt F)),
    unary main_v25 main_v26 (broadcastInDim S1024x1024 ![] bcast_S_S1024x1024 : (⟨S_, .f32⟩ : BufTy).Contents (Elt F) → (⟨S1024x1024, .f32⟩ : BufTy).Contents (Elt F)),
    binary main_v24 main_v26 main_v27 (Host.divf : (⟨S1024x1024, .f32⟩ : BufTy).Contents (Elt F) → (⟨S1024x1024, .f32⟩ : BufTy).Contents (Elt F) → (⟨S1024x1024, .f32⟩ : BufTy).Contents (Elt F)),
    unary main_v27 main_v28 (Host.erf : (⟨S1024x1024, .f32⟩ : BufTy).Contents (Elt F) → (⟨S1024x1024, .f32⟩ : BufTy).Contents (Elt F)),
    nullary main_cst_3 (constant S_ .f32 0x3F800000#32),
    unary main_cst_3 main_v29 (broadcastInDim S1024x1024 ![] bcast_S_S1024x1024 : (⟨S_, .f32⟩ : BufTy).Contents (Elt F) → (⟨S1024x1024, .f32⟩ : BufTy).Contents (Elt F)),
    binary main_v29 main_v28 main_v30 (addf : (⟨S1024x1024, .f32⟩ : BufTy).Contents (Elt F) → (⟨S1024x1024, .f32⟩ : BufTy).Contents (Elt F) → (⟨S1024x1024, .f32⟩ : BufTy).Contents (Elt F)),
    binary main_v24 main_v30 main_v31 (mulf : (⟨S1024x1024, .f32⟩ : BufTy).Contents (Elt F) → (⟨S1024x1024, .f32⟩ : BufTy).Contents (Elt F) → (⟨S1024x1024, .f32⟩ : BufTy).Contents (Elt F)),
    nullary main_cst_4 (constant S_ .f32 0x40000000#32),
    unary main_cst_4 main_v32 (broadcastInDim S1024x1024 ![] bcast_S_S1024x1024 : (⟨S_, .f32⟩ : BufTy).Contents (Elt F) → (⟨S1024x1024, .f32⟩ : BufTy).Contents (Elt F)),
    binary main_v31 main_v32 main_v33 (Host.divf : (⟨S1024x1024, .f32⟩ : BufTy).Contents (Elt F) → (⟨S1024x1024, .f32⟩ : BufTy).Contents (Elt F) → (⟨S1024x1024, .f32⟩ : BufTy).Contents (Elt F)) ]

/-- The buffers that `opsE` writes. -/
abbrev outE : List (Ref sig .tc) := [main_cst_2, main_v25, main_v26, main_v27, main_v28, main_cst_3, main_v29, main_v30, main_v31, main_cst_4, main_v32, main_v33]

/-- The second projection. -/
abbrev opsF : List (HloOp τ sig (Elt F)) :=
  [ unary main_arg5 main_v34 ((transpose S1024x512 [1, 0] · transposes_S512x1024_S1024x512_1_0) : (⟨S512x1024, .f32⟩ : BufTy).Contents (Elt F) → (⟨S1024x512, .f32⟩ : BufTy).Contents (Elt F)),
    binary main_v33 main_v34 main_v35 ((fun l r => Host.dotGeneral dot_S1024x1024_S1024x512_S1024x512_1_0_0_1_n_n none l r) : (⟨S1024x1024, .f32⟩ : BufTy).Contents (Elt F) → (⟨S1024x512, .f32⟩ : BufTy).Contents (Elt F) → (⟨S1024x512, .f32⟩ : BufTy).Contents (Elt F)),
    unary main_arg6 main_v36 (broadcastInDim S1x512 ![1] bcast_S512_S1x512_1 : (⟨S512, .f32⟩ : BufTy).Contents (Elt F) → (⟨S1x512, .f32⟩ : BufTy).Contents (Elt F)),
    unary main_v36 main_v37 (broadcastInDim S1024x512 ![0, 1] bcast_S1x512_S1024x512_0_1 : (⟨S1x512, .f32⟩ : BufTy).Contents (Elt F) → (⟨S1024x512, .f32⟩ : BufTy).Contents (Elt F)),
    binary main_v35 main_v37 main_v38 (addf : (⟨S1024x512, .f32⟩ : BufTy).Contents (Elt F) → (⟨S1024x512, .f32⟩ : BufTy).Contents (Elt F) → (⟨S1024x512, .f32⟩ : BufTy).Contents (Elt F)) ]

/-- The buffers that `opsF` writes. -/
abbrev outF : List (Ref sig .tc) := [main_v34, main_v35, main_v36, main_v37, main_v38]

/-- Its row means. -/
abbrev opsG : List (HloOp τ sig (Elt F)) :=
  [ nullary main_cst_5 (constant S_ .f32 0x00000000#32),
    binary main_v38 main_cst_5 main_v39 ((fun x v => Host.reduceAdd x v reducesTo_S1024x512_S1024_d1 h_S_) : (⟨S1024x512, .f32⟩ : BufTy).Contents (Elt F) → (⟨S_, .f32⟩ : BufTy).Contents (Elt F) → (⟨S1024, .f32⟩ : BufTy).Contents (Elt F)),
    unary main_v39 main_v40 (broadcastInDim S1024x1 ![0] bcast_S1024_S1024x1_0 : (⟨S1024, .f32⟩ : BufTy).Contents (Elt F) → (⟨S1024x1, .f32⟩ : BufTy).Contents (Elt F)),
    nullary main_cst_6 (constant S_ .f32 0x44000000#32),
    unary main_cst_6 main_v41 (broadcastInDim S1024x1 ![] bcast_S_S1024x1 : (⟨S_, .f32⟩ : BufTy).Contents (Elt F) → (⟨S1024x1, .f32⟩ : BufTy).Contents (Elt F)),
    binary main_v40 main_v41 main_v42 (Host.divf : (⟨S1024x1, .f32⟩ : BufTy).Contents (Elt F) → (⟨S1024x1, .f32⟩ : BufTy).Contents (Elt F) → (⟨S1024x1, .f32⟩ : BufTy).Contents (Elt F)),
    nullary main_c_7 (constantI S_ 32 0#32) ]

/-- The buffers that `opsG` writes. -/
abbrev outG : List (Ref sig .tc) := [main_cst_5, main_v39, main_v40, main_cst_6, main_v41, main_v42, main_c_7]

/-- Its row variances. -/
abbrev opsH : List (HloOp τ sig (Elt F)) :=
  [ TRef.nullary (.of main_call1_cst : TRef sig ⟨S_, .f32⟩) (constant S_ .f32 0x00000000#32),
    TRef.binary (.of main_v38 : TRef sig ⟨S1024x512, .f32⟩) (.of main_call1_cst : TRef sig ⟨S_, .f32⟩) (.of main_call1_v0 : TRef sig ⟨S1024, .f32⟩) (fun x v => Host.reduceAdd x v reducesTo_S1024x512_S1024_d1 h_S_),
    TRef.unary (.of main_call1_v0 : TRef sig ⟨S1024, .f32⟩) (.of main_call1_v1 : TRef sig ⟨S1024x1, .f32⟩) (broadcastInDim S1024x1 ![0] bcast_S1024_S1024x1_0),
    TRef.nullary (.of main_call1_cst_0 : TRef sig ⟨S_, .f32⟩) (constant S_ .f32 0x44000000#32),
    TRef.unary (.of main_call1_cst_0 : TRef sig ⟨S_, .f32⟩) (.of main_call1_v2 : TRef sig ⟨S1024x1, .f32⟩) (broadcastInDim S1024x1 ![] bcast_S_S1024x1),
    TRef.binary (.of main_call1_v1 : TRef sig ⟨S1024x1, .f32⟩) (.of main_call1_v2 : TRef sig ⟨S1024x1, .f32⟩) (.of main_call1_v3 : TRef sig ⟨S1024x1, .f32⟩) Host.divf,
    TRef.unary (.of main_call1_v3 : TRef sig ⟨S1024x1, .f32⟩) (.of main_call1_v4 : TRef sig ⟨S1024x512, .f32⟩) (broadcastInDim S1024x512 ![0, 1] bcast_S1024x1_S1024x512_0_1),
    TRef.binary (.of main_v38 : TRef sig ⟨S1024x512, .f32⟩) (.of main_call1_v4 : TRef sig ⟨S1024x512, .f32⟩) (.of main_call1_v5 : TRef sig ⟨S1024x512, .f32⟩) subf,
    TRef.binary (.of main_call1_v5 : TRef sig ⟨S1024x512, .f32⟩) (.of main_call1_v5 : TRef sig ⟨S1024x512, .f32⟩) (.of main_call1_v6 : TRef sig ⟨S1024x512, .f32⟩) mulf,
    TRef.unary (.of main_c_7 : TRef sig ⟨S_, .i32⟩) (.of main_call1_v7 : TRef sig ⟨S_, .f32⟩) (sitofp .f32),
    TRef.nullary (.of main_call1_cst_1 : TRef sig ⟨S_, .f32⟩) (constant S_ .f32 0x44000000#32),
    TRef.binary (.of main_call1_cst_1 : TRef sig ⟨S_, .f32⟩) (.of main_call1_v7 : TRef sig ⟨S_, .f32⟩) (.of main_call1_v8 : TRef sig ⟨S_, .f32⟩) subf,
    TRef.nullary (.of main_call1_cst_2 : TRef sig ⟨S_, .f32⟩) (constant S_ .f32 0x00000000#32),
    TRef.binary (.of main_call1_v6 : TRef sig ⟨S1024x512, .f32⟩) (.of main_call1_cst_2 : TRef sig ⟨S_, .f32⟩) (.of main_call1_v9 : TRef sig ⟨S1024, .f32⟩) (fun x v => Host.reduceAdd x v reducesTo_S1024x512_S1024_d1 h_S_),
    TRef.unary (.of main_call1_v9 : TRef sig ⟨S1024, .f32⟩) (.of main_call1_v10 : TRef sig ⟨S1024x1, .f32⟩) (broadcastInDim S1024x1 ![0] bcast_S1024_S1024x1_0),
    TRef.unary (.of main_call1_v8 : TRef sig ⟨S_, .f32⟩) (.of main_call1_v11 : TRef sig ⟨S1024x1, .f32⟩) (broadcastInDim S1024x1 ![] bcast_S_S1024x1),
    TRef.binary (.of main_call1_v10 : TRef sig ⟨S1024x1, .f32⟩) (.of main_call1_v11 : TRef sig ⟨S1024x1, .f32⟩) (.of main_call1_v12 : TRef sig ⟨S1024x1, .f32⟩) Host.divf,
    TRef.nullary (.of main_call1_cst_3 : TRef sig ⟨S_, .f32⟩) (constant S_ .f32 0x00000000#32),
    TRef.binary (.of main_call1_v8 : TRef sig ⟨S_, .f32⟩) (.of main_call1_cst_3 : TRef sig ⟨S_, .f32⟩) (.of main_call1_v13 : TRef sig ⟨S_, .i1⟩) (cmpf .ogt),
    TRef.nullary (.of main_call1_cst_4 : TRef sig ⟨S_, .f32⟩) (constant S_ .f32 0x7FC00000#32),
    TRef.unary (.of main_call1_cst_4 : TRef sig ⟨S_, .f32⟩) (.of main_call1_call0_v0 : TRef sig ⟨S_, .f32⟩) id,
    TRef.unary (.of main_call1_call0_v0 : TRef sig ⟨S_, .f32⟩) (.of main_call1_call0_v1 : TRef sig ⟨S1024x1, .f32⟩) (broadcastInDim S1024x1 ![] bcast_S_S1024x1),
    TRef.ternary (.of main_call1_v13 : TRef sig ⟨S_, .i1⟩) (.of main_call1_v12 : TRef sig ⟨S1024x1, .f32⟩) (.of main_call1_call0_v1 : TRef sig ⟨S1024x1, .f32⟩) (.of main_v43 : TRef sig ⟨S1024x1, .f32⟩) (fun p a b => select (broadcastInDim S1024x1 ![] bcast_S_S1024x1 p) a b) ]

/-- The buffers that `opsH` writes. -/
abbrev outH : List (Ref sig .tc) := [main_call1_cst, main_call1_v0, main_call1_v1, main_call1_cst_0, main_call1_v2, main_call1_v3, main_call1_v4, main_call1_v5, main_call1_v6, main_call1_v7, main_call1_cst_1, main_call1_v8, main_call1_cst_2, main_call1_v9, main_call1_v10, main_call1_v11, main_call1_v12, main_call1_cst_3, main_call1_v13, main_call1_cst_4, main_call1_call0_v0, main_call1_call0_v1, main_v43]

/-- The second layer normalization, up to the divisor. -/
abbrev opsI : List (HloOp τ sig (Elt F)) :=
  [ unary main_v42 main_v44 (broadcastInDim S1024x512 ![0, 1] bcast_S1024x1_S1024x512_0_1 : (⟨S1024x1, .f32⟩ : BufTy).Contents (Elt F) → (⟨S1024x512, .f32⟩ : BufTy).Contents (Elt F)),
    binary main_v38 main_v44 main_v45 (subf : (⟨S1024x512, .f32⟩ : BufTy).Contents (Elt F) → (⟨S1024x512, .f32⟩ : BufTy).Contents (Elt F) → (⟨S1024x512, .f32⟩ : BufTy).Contents (Elt F)),
    nullary main_cst_8 (constant S_ .f32 0x3727C5AC#32),
    unary main_cst_8 main_v46 (broadcastInDim S1024x1 ![] bcast_S_S1024x1 : (⟨S_, .f32⟩ : BufTy).Contents (Elt F) → (⟨S1024x1, .f32⟩ : BufTy).Contents (Elt F)),
    binary main_v43 main_v46 main_v47 (addf : (⟨S1024x1, .f32⟩ : BufTy).Contents (Elt F) → (⟨S1024x1, .f32⟩ : BufTy).Contents (Elt F) → (⟨S1024x1, .f32⟩ : BufTy).Contents (Elt F)),
    unary main_v47 main_v48 (Host.sqrt : (⟨S1024x1, .f32⟩ : BufTy).Contents (Elt F) → (⟨S1024x1, .f32⟩ : BufTy).Contents (Elt F)) ]

/-- The buffers that `opsI` writes. -/
abbrev outI : List (Ref sig .tc) := [main_v44, main_v45, main_cst_8, main_v46, main_v47, main_v48]

/-- The rest of the second layer normalization. -/
abbrev opsJ : List (HloOp τ sig (Elt F)) :=
  [ unary main_v48 main_v49 (broadcastInDim S1024x512 ![0, 1] bcast_S1024x1_S1024x512_0_1 : (⟨S1024x1, .f32⟩ : BufTy).Contents (Elt F) → (⟨S1024x512, .f32⟩ : BufTy).Contents (Elt F)),
    binary main_v45 main_v49 main_v50 (Host.divf : (⟨S1024x512, .f32⟩ : BufTy).Contents (Elt F) → (⟨S1024x512, .f32⟩ : BufTy).Contents (Elt F) → (⟨S1024x512, .f32⟩ : BufTy).Contents (Elt F)),
    unary main_arg7 main_v51 (broadcastInDim S1x512 ![1] bcast_S512_S1x512_1 : (⟨S512, .f32⟩ : BufTy).Contents (Elt F) → (⟨S1x512, .f32⟩ : BufTy).Contents (Elt F)),
    unary main_v51 main_v52 (broadcastInDim S1024x512 ![0, 1] bcast_S1x512_S1024x512_0_1 : (⟨S1x512, .f32⟩ : BufTy).Contents (Elt F) → (⟨S1024x512, .f32⟩ : BufTy).Contents (Elt F)),
    binary main_v50 main_v52 main_v53 (mulf : (⟨S1024x512, .f32⟩ : BufTy).Contents (Elt F) → (⟨S1024x512, .f32⟩ : BufTy).Contents (Elt F) → (⟨S1024x512, .f32⟩ : BufTy).Contents (Elt F)),
    unary main_arg8 main_v54 (broadcastInDim S1x512 ![1] bcast_S512_S1x512_1 : (⟨S512, .f32⟩ : BufTy).Contents (Elt F) → (⟨S1x512, .f32⟩ : BufTy).Contents (Elt F)),
    unary main_v54 main_v55 (broadcastInDim S1024x512 ![0, 1] bcast_S1x512_S1024x512_0_1 : (⟨S1x512, .f32⟩ : BufTy).Contents (Elt F) → (⟨S1024x512, .f32⟩ : BufTy).Contents (Elt F)),
    binary main_v53 main_v55 main_v56 (addf : (⟨S1024x512, .f32⟩ : BufTy).Contents (Elt F) → (⟨S1024x512, .f32⟩ : BufTy).Contents (Elt F) → (⟨S1024x512, .f32⟩ : BufTy).Contents (Elt F)) ]

/-- The buffers that `opsJ` writes. -/
abbrev outJ : List (Ref sig .tc) := [main_v49, main_v50, main_v51, main_v52, main_v53, main_v54, main_v55, main_v56]

/-- The second activation. -/
abbrev opsK : List (HloOp τ sig (Elt F)) :=
  [ nullary main_cst_9 (constant S_ .f32 0x40000000#32),
    unary main_cst_9 main_v57 (Host.sqrt : (⟨S_, .f32⟩ : BufTy).Contents (Elt F) → (⟨S_, .f32⟩ : BufTy).Contents (Elt F)),
    unary main_v57 main_v58 (broadcastInDim S1024x512 ![] bcast_S_S1024x512 : (⟨S_, .f32⟩ : BufTy).Contents (Elt F) → (⟨S1024x512, .f32⟩ : BufTy).Contents (Elt F)),
    binary main_v56 main_v58 main_v59 (Host.divf : (⟨S1024x512, .f32⟩ : BufTy).Contents (Elt F) → (⟨S1024x512, .f32⟩ : BufTy).Contents (Elt F) → (⟨S1024x512, .f32⟩ : BufTy).Contents (Elt F)),
    unary main_v59 main_v60 (Host.erf : (⟨S1024x512, .f32⟩ : BufTy).Contents (Elt F) → (⟨S1024x512, .f32⟩ : BufTy).Contents (Elt F)),
    nullary main_cst_10 (constant S_ .f32 0x3F800000#32),
    unary main_cst_10 main_v61 (broadcastInDim S1024x512 ![] bcast_S_S1024x512 : (⟨S_, .f32⟩ : BufTy).Contents (Elt F) → (⟨S1024x512, .f32⟩ : BufTy).Contents (Elt F)),
    binary main_v61 main_v60 main_v62 (addf : (⟨S1024x512, .f32⟩ : BufTy).Contents (Elt F) → (⟨S1024x512, .f32⟩ : BufTy).Contents (Elt F) → (⟨S1024x512, .f32⟩ : BufTy).Contents (Elt F)),
    binary main_v56 main_v62 main_v63 (mulf : (⟨S1024x512, .f32⟩ : BufTy).Contents (Elt F) → (⟨S1024x512, .f32⟩ : BufTy).Contents (Elt F) → (⟨S1024x512, .f32⟩ : BufTy).Contents (Elt F)),
    nullary main_cst_11 (constant S_ .f32 0x40000000#32),
    unary main_cst_11 main_v64 (broadcastInDim S1024x512 ![] bcast_S_S1024x512 : (⟨S_, .f32⟩ : BufTy).Contents (Elt F) → (⟨S1024x512, .f32⟩ : BufTy).Contents (Elt F)),
    binary main_v63 main_v64 main_v65 (Host.divf : (⟨S1024x512, .f32⟩ : BufTy).Contents (Elt F) → (⟨S1024x512, .f32⟩ : BufTy).Contents (Elt F) → (⟨S1024x512, .f32⟩ : BufTy).Contents (Elt F)) ]

/-- The buffers that `opsK` writes. -/
abbrev outK : List (Ref sig .tc) := [main_cst_9, main_v57, main_v58, main_v59, main_v60, main_cst_10, main_v61, main_v62, main_v63, main_cst_11, main_v64, main_v65]

/-- The third projection: the encoding. -/
abbrev opsL : List (HloOp τ sig (Elt F)) :=
  [ unary main_arg9 main_v66 ((transpose S512x128 [1, 0] · transposes_S128x512_S512x128_1_0) : (⟨S128x512, .f32⟩ : BufTy).Contents (Elt F) → (⟨S512x128, .f32⟩ : BufTy).Contents (Elt F)),
    binary main_v65 main_v66 main_v67 ((fun l r => Host.dotGeneral dot_S1024x512_S512x128_S1024x128_1_0_0_1_n_n none l r) : (⟨S1024x512, .f32⟩ : BufTy).Contents (Elt F) → (⟨S512x128, .f32⟩ : BufTy).Contents (Elt F) → (⟨S1024x128, .f32⟩ : BufTy).Contents (Elt F)),
    unary main_arg10 main_v68 (broadcastInDim S1x128 ![1] bcast_S128_S1x128_1 : (⟨S128, .f32⟩ : BufTy).Contents (Elt F) → (⟨S1x128, .f32⟩ : BufTy).Contents (Elt F)),
    unary main_v68 main_v69 (broadcastInDim S1024x128 ![0, 1] bcast_S1x128_S1024x128_0_1 : (⟨S1x128, .f32⟩ : BufTy).Contents (Elt F) → (⟨S1024x128, .f32⟩ : BufTy).Contents (Elt F)),
    binary main_v67 main_v69 main_v70 (addf : (⟨S1024x128, .f32⟩ : BufTy).Contents (Elt F) → (⟨S1024x128, .f32⟩ : BufTy).Contents (Elt F) → (⟨S1024x128, .f32⟩ : BufTy).Contents (Elt F)) ]

/-- The buffers that `opsL` writes. -/
abbrev outL : List (Ref sig .tc) := [main_v66, main_v67, main_v68, main_v69, main_v70]

/-- The normalized encoding. -/
abbrev opsM : List (HloOp τ sig (Elt F)) :=
  [ TRef.binary (.of main_v70 : TRef sig ⟨S1024x128, .f32⟩) (.of main_v70 : TRef sig ⟨S1024x128, .f32⟩) (.of main_call2_v0 : TRef sig ⟨S1024x128, .f32⟩) mulf,
    TRef.nullary (.of main_call2_cst : TRef sig ⟨S_, .f32⟩) (constant S_ .f32 0x00000000#32),
    TRef.binary (.of main_call2_v0 : TRef sig ⟨S1024x128, .f32⟩) (.of main_call2_cst : TRef sig ⟨S_, .f32⟩) (.of main_call2_v1 : TRef sig ⟨S1024, .f32⟩) (fun x v => Host.reduceAdd x v reducesTo_S1024x128_S1024_d1 h_S_),
    TRef.unary (.of main_call2_v1 : TRef sig ⟨S1024, .f32⟩) (.of main_call2_v2 : TRef sig ⟨S1024x1, .f32⟩) (broadcastInDim S1024x1 ![0] bcast_S1024_S1024x1_0),
    TRef.unary (.of main_call2_v2 : TRef sig ⟨S1024x1, .f32⟩) (.of main_v71 : TRef sig ⟨S1024x1, .f32⟩) Host.sqrt,
    nullary main_cst_12 (constant S_ .f32 0x2B8CBCCC#32),
    unary main_cst_12 main_v72 (broadcastInDim S1024x1 ![] bcast_S_S1024x1 : (⟨S_, .f32⟩ : BufTy).Contents (Elt F) → (⟨S1024x1, .f32⟩ : BufTy).Contents (Elt F)),
    binary main_v71 main_v72 main_v73 (maximumf : (⟨S1024x1, .f32⟩ : BufTy).Contents (Elt F) → (⟨S1024x1, .f32⟩ : BufTy).Contents (Elt F) → (⟨S1024x1, .f32⟩ : BufTy).Contents (Elt F)),
    unary main_v73 main_v74 (broadcastInDim S1024x128 ![0, 1] bcast_S1024x1_S1024x128_0_1 : (⟨S1024x1, .f32⟩ : BufTy).Contents (Elt F) → (⟨S1024x128, .f32⟩ : BufTy).Contents (Elt F)),
    binary main_v70 main_v74 main_v75 (Host.divf : (⟨S1024x128, .f32⟩ : BufTy).Contents (Elt F) → (⟨S1024x128, .f32⟩ : BufTy).Contents (Elt F) → (⟨S1024x128, .f32⟩ : BufTy).Contents (Elt F)) ]

/-- The buffers that `opsM` writes. -/
abbrev outM : List (Ref sig .tc) := [main_call2_v0, main_call2_cst, main_call2_v1, main_call2_v2, main_v71, main_cst_12, main_v72, main_v73, main_v74, main_v75]

/-- The products with the memory rows and the norms. -/
abbrev opsN : List (HloOp τ sig (Elt F)) :=
  [ TRef.binary (.of main_arg11 : TRef sig ⟨S100000x128, .f32⟩) (.of main_arg11 : TRef sig ⟨S100000x128, .f32⟩) (.of main_call3_v0 : TRef sig ⟨S100000x128, .f32⟩) mulf,
    TRef.nullary (.of main_call3_cst : TRef sig ⟨S_, .f32⟩) (constant S_ .f32 0x00000000#32),
    TRef.binary (.of main_call3_v0 : TRef sig ⟨S100000x128, .f32⟩) (.of main_call3_cst : TRef sig ⟨S_, .f32⟩) (.of main_call3_v1 : TRef sig ⟨S100000, .f32⟩) (fun x v => Host.reduceAdd x v reducesTo_S100000x128_S100000_d1 h_S_),
    TRef.unary (.of main_call3_v1 : TRef sig ⟨S100000, .f32⟩) (.of main_call3_v2 : TRef sig ⟨S100000x1, .f32⟩) (broadcastInDim S100000x1 ![0] bcast_S100000_S100000x1_0),
    TRef.unary (.of main_call3_v2 : TRef sig ⟨S100000x1, .f32⟩) (.of main_v76 : TRef sig ⟨S100000x1, .f32⟩) Host.sqrt,
    unary main_arg11 main_v77 ((transpose S128x100000 [1, 0] · transposes_S100000x128_S128x100000_1_0) : (⟨S100000x128, .f32⟩ : BufTy).Contents (Elt F) → (⟨S128x100000, .f32⟩ : BufTy).Contents (Elt F)),
    binary main_v75 main_v77 main_v78 ((fun l r => Host.dotGeneral dot_S1024x128_S128x100000_S1024x100000_1_0_0_1_n_n none l r) : (⟨S1024x128, .f32⟩ : BufTy).Contents (Elt F) → (⟨S128x100000, .f32⟩ : BufTy).Contents (Elt F) → (⟨S1024x100000, .f32⟩ : BufTy).Contents (Elt F)),
    TRef.binary (.of main_v75 : TRef sig ⟨S1024x128, .f32⟩) (.of main_v75 : TRef sig ⟨S1024x128, .f32⟩) (.of main_call4_v0 : TRef sig ⟨S1024x128, .f32⟩) mulf,
    TRef.nullary (.of main_call4_cst : TRef sig ⟨S_, .f32⟩) (constant S_ .f32 0x00000000#32),
    TRef.binary (.of main_call4_v0 : TRef sig ⟨S1024x128, .f32⟩) (.of main_call4_cst : TRef sig ⟨S_, .f32⟩) (.of main_call4_v1 : TRef sig ⟨S1024, .f32⟩) (fun x v => Host.reduceAdd x v reducesTo_S1024x128_S1024_d1 h_S_),
    TRef.unary (.of main_call4_v1 : TRef sig ⟨S1024, .f32⟩) (.of main_call4_v2 : TRef sig ⟨S1024x1, .f32⟩) (broadcastInDim S1024x1 ![0] bcast_S1024_S1024x1_0),
    TRef.unary (.of main_call4_v2 : TRef sig ⟨S1024x1, .f32⟩) (.of main_v79 : TRef sig ⟨S1024x1, .f32⟩) Host.sqrt ]

/-- The buffers that `opsN` writes. -/
abbrev outN : List (Ref sig .tc) := [main_call3_v0, main_call3_cst, main_call3_v1, main_call3_v2, main_v76, main_v77, main_v78, main_call4_v0, main_call4_cst, main_call4_v1, main_call4_v2, main_v79]

/-- The similarities. -/
abbrev opsO : List (HloOp τ sig (Elt F)) :=
  [ unary main_v76 main_v80 ((transpose S1x100000 [1, 0] · transposes_S100000x1_S1x100000_1_0) : (⟨S100000x1, .f32⟩ : BufTy).Contents (Elt F) → (⟨S1x100000, .f32⟩ : BufTy).Contents (Elt F)),
    unary main_v79 main_v81 (broadcastInDim S1024x100000 ![0, 1] bcast_S1024x1_S1024x100000_0_1 : (⟨S1024x1, .f32⟩ : BufTy).Contents (Elt F) → (⟨S1024x100000, .f32⟩ : BufTy).Contents (Elt F)),
    unary main_v80 main_v82 (broadcastInDim S1024x100000 ![0, 1] bcast_S1x100000_S1024x100000_0_1 : (⟨S1x100000, .f32⟩ : BufTy).Contents (Elt F) → (⟨S1024x100000, .f32⟩ : BufTy).Contents (Elt F)),
    binary main_v81 main_v82 main_v83 (mulf : (⟨S1024x100000, .f32⟩ : BufTy).Contents (Elt F) → (⟨S1024x100000, .f32⟩ : BufTy).Contents (Elt F) → (⟨S1024x100000, .f32⟩ : BufTy).Contents (Elt F)),
    nullary main_cst_13 (constant S_ .f32 0x322BCC77#32),
    unary main_cst_13 main_v84 (broadcastInDim S1024x100000 ![] bcast_S_S1024x100000 : (⟨S_, .f32⟩ : BufTy).Contents (Elt F) → (⟨S1024x100000, .f32⟩ : BufTy).Contents (Elt F)),
    binary main_v83 main_v84 main_v85 (maximumf : (⟨S1024x100000, .f32⟩ : BufTy).Contents (Elt F) → (⟨S1024x100000, .f32⟩ : BufTy).Contents (Elt F) → (⟨S1024x100000, .f32⟩ : BufTy).Contents (Elt F)),
    binary main_v78 main_v85 main_v86 (Host.divf : (⟨S1024x100000, .f32⟩ : BufTy).Contents (Elt F) → (⟨S1024x100000, .f32⟩ : BufTy).Contents (Elt F) → (⟨S1024x100000, .f32⟩ : BufTy).Contents (Elt F)) ]

/-- The buffers that `opsO` writes. -/
abbrev outO : List (Ref sig .tc) := [main_v80, main_v81, main_v82, main_v83, main_cst_13, main_v84, main_v85, main_v86]

/-- The maximum and its position. -/
abbrev opsQ : List (HloOp τ sig (Elt F)) :=
  [ nullary main_cst_14 (constant S_ .f32 0xFF800000#32),
    binary main_v86 main_cst_14 main_v87 ((fun x v => Host.reduce FloatOps.maximumf x v reducesTo_S1024x100000_S1024_d1 h_S_) : (⟨S1024x100000, .f32⟩ : BufTy).Contents (Elt F) → (⟨S_, .f32⟩ : BufTy).Contents (Elt F) → (⟨S1024, .f32⟩ : BufTy).Contents (Elt F)),
    TRef.nullary (.of main_call5_v0 : TRef sig ⟨S1024x100000, .i32⟩) (iotaInDim S1024x100000 32 1),
    TRef.nullary (.of main_call5_cst : TRef sig ⟨S_, .f32⟩) (constant S_ .f32 0xFF800000#32),
    TRef.nullary (.of main_call5_c : TRef sig ⟨S_, .i32⟩) (constantI S_ 32 0#32),
    TRef.quaternary (.of main_v86 : TRef sig ⟨S1024x100000, .f32⟩) (.of main_call5_v0 : TRef sig ⟨S1024x100000, .i32⟩) (.of main_call5_cst : TRef sig ⟨S_, .f32⟩) (.of main_call5_c : TRef sig ⟨S_, .i32⟩) (.of main_call5_v1_0 : TRef sig ⟨S1024, .f32⟩) (fun x y u v j => (Host.argReduce reducer_argmax_f32_i32 x y u v reducesTo_S1024x100000_S1024_d1 h_S_ j).1),
    TRef.quaternary (.of main_v86 : TRef sig ⟨S1024x100000, .f32⟩) (.of main_call5_v0 : TRef sig ⟨S1024x100000, .i32⟩) (.of main_call5_cst : TRef sig ⟨S_, .f32⟩) (.of main_call5_c : TRef sig ⟨S_, .i32⟩) (.of main_v88 : TRef sig ⟨S1024, .i32⟩) (fun x y u v j => (Host.argReduce reducer_argmax_f32_i32 x y u v reducesTo_S1024x100000_S1024_d1 h_S_ j).2),
    reshape main_v87 main_v89 (rfl : (.f32 : EltTy) = .f32) shapeCasts_S1024_S1x1024,
    reshape main_v88 main_v90 (rfl : (.i32 : EltTy) = .i32) shapeCasts_S1024_S1x1024 ]

/-- The buffers that `opsQ` writes. -/
abbrev outQ : List (Ref sig .tc) := [main_cst_14, main_v87, main_call5_v0, main_call5_cst, main_call5_c, main_call5_v1_0, main_v88, main_v89, main_v90]

/-- The operations of the first window of @main. -/
abbrev opsFirst : List (HloOp τ sig (Elt F)) := opsA (F := F) ++ (opsB (F := F) ++ (opsC (F := F) ++ (opsD (F := F) ++ (opsE (F := F) ++ (opsF (F := F) ++ (opsG (F := F) ++ (opsH (F := F) ++ (opsI (F := F)))))))))

/-- The operations of the second window of @main. -/
abbrev opsSecond : List (HloOp τ sig (Elt F)) := opsJ (F := F) ++ (opsK (F := F) ++ (opsL (F := F) ++ (opsM (F := F) ++ (opsN (F := F) ++ (opsO (F := F) ++ (opsQ (F := F)))))))

/-- All operations of @main. -/
abbrev ops : List (HloOp τ sig (Elt F)) := opsFirst (F := F) ++ opsSecond (F := F)

set_option maxHeartbeats 40000000 in
/-- The first window is its operations in order. -/
theorem first_eq (c : Dev nD) : main_part0 (F := F) c = seq (opsFirst (F := F)) := rfl

set_option maxHeartbeats 40000000 in
/-- The second window is its operations in order. -/
theorem second_eq (c : Dev nD) : main_part1 (F := F) c = seq (opsSecond (F := F)) := rfl

/-- @main is its operations in order. -/
theorem main_eq (c : Dev nD) : main (F := F) c = seq (ops (F := F)) := by
  unfold ops
  rw [seq_append, ← first_eq c, ← second_eq c]
  rfl

/-- No buffer is scoped. -/
theorem noScopedRefs : (Finset.univ.filter fun b : Ref sig .tc => b.isScoped) = ∅ := by decide
/-- No semaphore is scoped. -/
theorem noScopedSems : (Finset.univ.filter fun sm : SemLoc sig => sm.isScoped .tc) = ∅ := by decide

/-- Each operation of `opsA` writes within `outA`. -/
theorem writesA : (opsA (F := F)).Forall fun op => op.writes ⊆ (outA.map (Proc.devRef (τ := τ) .tc)).toFinset := forall_writes_sub_of_map rfl
/-- No operation of `opsA` allocates. -/
theorem freshA : (opsA (F := F)).Forall fun op => op.fresh = ∅ := forall_fresh_of_map rfl
/-- The operations of `opsA` touch TensorCore buffers only. -/
theorem bufsA : (opsA (F := F)).Forall fun op => op.bufs ⊆ tcRefs τ sig := ⟨unary_bufs_sub .., reshape_bufs_sub .., unary_bufs_sub .., binary_bufs_sub .., unary_bufs_sub .., unary_bufs_sub .., binary_bufs_sub ..⟩
/-- A buffer outside `outA` keeps its contents through `opsA`. -/
theorem keepA (V : Valuation τ sig (Elt F)) (r : Ref sig .tc) (h : r ∉ outA) : after (opsA (F := F)) V (Proc.devRef .tc r) = V (Proc.devRef .tc r) :=
  after_of_writes_sub opsA V writesA h

/-- Each operation of `opsB` writes within `outB`. -/
theorem writesB : (opsB (F := F)).Forall fun op => op.writes ⊆ (outB.map (Proc.devRef (τ := τ) .tc)).toFinset := forall_writes_sub_of_map rfl
/-- No operation of `opsB` allocates. -/
theorem freshB : (opsB (F := F)).Forall fun op => op.fresh = ∅ := forall_fresh_of_map rfl
/-- The operations of `opsB` touch TensorCore buffers only. -/
theorem bufsB : (opsB (F := F)).Forall fun op => op.bufs ⊆ tcRefs τ sig := ⟨nullary_bufs_sub .., binary_bufs_sub .., unary_bufs_sub .., nullary_bufs_sub .., unary_bufs_sub .., binary_bufs_sub .., nullary_bufs_sub ..⟩
/-- A buffer outside `outB` keeps its contents through `opsB`. -/
theorem keepB (V : Valuation τ sig (Elt F)) (r : Ref sig .tc) (h : r ∉ outB) : after (opsB (F := F)) V (Proc.devRef .tc r) = V (Proc.devRef .tc r) :=
  after_of_writes_sub opsB V writesB h

/-- Each operation of `opsC` writes within `outC`. -/
theorem writesC : (opsC (F := F)).Forall fun op => op.writes ⊆ (outC.map (Proc.devRef (τ := τ) .tc)).toFinset := forall_writes_sub_of_map rfl
/-- No operation of `opsC` allocates. -/
theorem freshC : (opsC (F := F)).Forall fun op => op.fresh = ∅ := forall_fresh_of_map rfl
/-- The operations of `opsC` touch TensorCore buffers only. -/
theorem bufsC : (opsC (F := F)).Forall fun op => op.bufs ⊆ tcRefs τ sig := ⟨nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub ..⟩
/-- A buffer outside `outC` keeps its contents through `opsC`. -/
theorem keepC (V : Valuation τ sig (Elt F)) (r : Ref sig .tc) (h : r ∉ outC) : after (opsC (F := F)) V (Proc.devRef .tc r) = V (Proc.devRef .tc r) :=
  after_of_writes_sub opsC V writesC h

/-- Each operation of `opsD` writes within `outD`. -/
theorem writesD : (opsD (F := F)).Forall fun op => op.writes ⊆ (outD.map (Proc.devRef (τ := τ) .tc)).toFinset := forall_writes_sub_of_map rfl
/-- No operation of `opsD` allocates. -/
theorem freshD : (opsD (F := F)).Forall fun op => op.fresh = ∅ := forall_fresh_of_map rfl
/-- The operations of `opsD` touch TensorCore buffers only. -/
theorem bufsD : (opsD (F := F)).Forall fun op => op.bufs ⊆ tcRefs τ sig := ⟨unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub ..⟩
/-- A buffer outside `outD` keeps its contents through `opsD`. -/
theorem keepD (V : Valuation τ sig (Elt F)) (r : Ref sig .tc) (h : r ∉ outD) : after (opsD (F := F)) V (Proc.devRef .tc r) = V (Proc.devRef .tc r) :=
  after_of_writes_sub opsD V writesD h

/-- Each operation of `opsE` writes within `outE`. -/
theorem writesE : (opsE (F := F)).Forall fun op => op.writes ⊆ (outE.map (Proc.devRef (τ := τ) .tc)).toFinset := forall_writes_sub_of_map rfl
/-- No operation of `opsE` allocates. -/
theorem freshE : (opsE (F := F)).Forall fun op => op.fresh = ∅ := forall_fresh_of_map rfl
/-- The operations of `opsE` touch TensorCore buffers only. -/
theorem bufsE : (opsE (F := F)).Forall fun op => op.bufs ⊆ tcRefs τ sig := ⟨nullary_bufs_sub .., unary_bufs_sub .., unary_bufs_sub .., binary_bufs_sub .., unary_bufs_sub .., nullary_bufs_sub .., unary_bufs_sub .., binary_bufs_sub .., binary_bufs_sub .., nullary_bufs_sub .., unary_bufs_sub .., binary_bufs_sub ..⟩
/-- A buffer outside `outE` keeps its contents through `opsE`. -/
theorem keepE (V : Valuation τ sig (Elt F)) (r : Ref sig .tc) (h : r ∉ outE) : after (opsE (F := F)) V (Proc.devRef .tc r) = V (Proc.devRef .tc r) :=
  after_of_writes_sub opsE V writesE h

/-- Each operation of `opsF` writes within `outF`. -/
theorem writesF : (opsF (F := F)).Forall fun op => op.writes ⊆ (outF.map (Proc.devRef (τ := τ) .tc)).toFinset := forall_writes_sub_of_map rfl
/-- No operation of `opsF` allocates. -/
theorem freshF : (opsF (F := F)).Forall fun op => op.fresh = ∅ := forall_fresh_of_map rfl
/-- The operations of `opsF` touch TensorCore buffers only. -/
theorem bufsF : (opsF (F := F)).Forall fun op => op.bufs ⊆ tcRefs τ sig := ⟨unary_bufs_sub .., binary_bufs_sub .., unary_bufs_sub .., unary_bufs_sub .., binary_bufs_sub ..⟩
/-- A buffer outside `outF` keeps its contents through `opsF`. -/
theorem keepF (V : Valuation τ sig (Elt F)) (r : Ref sig .tc) (h : r ∉ outF) : after (opsF (F := F)) V (Proc.devRef .tc r) = V (Proc.devRef .tc r) :=
  after_of_writes_sub opsF V writesF h

/-- Each operation of `opsG` writes within `outG`. -/
theorem writesG : (opsG (F := F)).Forall fun op => op.writes ⊆ (outG.map (Proc.devRef (τ := τ) .tc)).toFinset := forall_writes_sub_of_map rfl
/-- No operation of `opsG` allocates. -/
theorem freshG : (opsG (F := F)).Forall fun op => op.fresh = ∅ := forall_fresh_of_map rfl
/-- The operations of `opsG` touch TensorCore buffers only. -/
theorem bufsG : (opsG (F := F)).Forall fun op => op.bufs ⊆ tcRefs τ sig := ⟨nullary_bufs_sub .., binary_bufs_sub .., unary_bufs_sub .., nullary_bufs_sub .., unary_bufs_sub .., binary_bufs_sub .., nullary_bufs_sub ..⟩
/-- A buffer outside `outG` keeps its contents through `opsG`. -/
theorem keepG (V : Valuation τ sig (Elt F)) (r : Ref sig .tc) (h : r ∉ outG) : after (opsG (F := F)) V (Proc.devRef .tc r) = V (Proc.devRef .tc r) :=
  after_of_writes_sub opsG V writesG h

/-- Each operation of `opsH` writes within `outH`. -/
theorem writesH : (opsH (F := F)).Forall fun op => op.writes ⊆ (outH.map (Proc.devRef (τ := τ) .tc)).toFinset := forall_writes_sub_of_map rfl
/-- No operation of `opsH` allocates. -/
theorem freshH : (opsH (F := F)).Forall fun op => op.fresh = ∅ := forall_fresh_of_map rfl
/-- The operations of `opsH` touch TensorCore buffers only. -/
theorem bufsH : (opsH (F := F)).Forall fun op => op.bufs ⊆ tcRefs τ sig := ⟨nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub ..⟩
/-- A buffer outside `outH` keeps its contents through `opsH`. -/
theorem keepH (V : Valuation τ sig (Elt F)) (r : Ref sig .tc) (h : r ∉ outH) : after (opsH (F := F)) V (Proc.devRef .tc r) = V (Proc.devRef .tc r) :=
  after_of_writes_sub opsH V writesH h

/-- Each operation of `opsI` writes within `outI`. -/
theorem writesI : (opsI (F := F)).Forall fun op => op.writes ⊆ (outI.map (Proc.devRef (τ := τ) .tc)).toFinset := forall_writes_sub_of_map rfl
/-- No operation of `opsI` allocates. -/
theorem freshI : (opsI (F := F)).Forall fun op => op.fresh = ∅ := forall_fresh_of_map rfl
/-- The operations of `opsI` touch TensorCore buffers only. -/
theorem bufsI : (opsI (F := F)).Forall fun op => op.bufs ⊆ tcRefs τ sig := ⟨unary_bufs_sub .., binary_bufs_sub .., nullary_bufs_sub .., unary_bufs_sub .., binary_bufs_sub .., unary_bufs_sub ..⟩
/-- A buffer outside `outI` keeps its contents through `opsI`. -/
theorem keepI (V : Valuation τ sig (Elt F)) (r : Ref sig .tc) (h : r ∉ outI) : after (opsI (F := F)) V (Proc.devRef .tc r) = V (Proc.devRef .tc r) :=
  after_of_writes_sub opsI V writesI h

/-- Each operation of `opsJ` writes within `outJ`. -/
theorem writesJ : (opsJ (F := F)).Forall fun op => op.writes ⊆ (outJ.map (Proc.devRef (τ := τ) .tc)).toFinset := forall_writes_sub_of_map rfl
/-- No operation of `opsJ` allocates. -/
theorem freshJ : (opsJ (F := F)).Forall fun op => op.fresh = ∅ := forall_fresh_of_map rfl
/-- The operations of `opsJ` touch TensorCore buffers only. -/
theorem bufsJ : (opsJ (F := F)).Forall fun op => op.bufs ⊆ tcRefs τ sig := ⟨unary_bufs_sub .., binary_bufs_sub .., unary_bufs_sub .., unary_bufs_sub .., binary_bufs_sub .., unary_bufs_sub .., unary_bufs_sub .., binary_bufs_sub ..⟩
/-- A buffer outside `outJ` keeps its contents through `opsJ`. -/
theorem keepJ (V : Valuation τ sig (Elt F)) (r : Ref sig .tc) (h : r ∉ outJ) : after (opsJ (F := F)) V (Proc.devRef .tc r) = V (Proc.devRef .tc r) :=
  after_of_writes_sub opsJ V writesJ h

/-- Each operation of `opsK` writes within `outK`. -/
theorem writesK : (opsK (F := F)).Forall fun op => op.writes ⊆ (outK.map (Proc.devRef (τ := τ) .tc)).toFinset := forall_writes_sub_of_map rfl
/-- No operation of `opsK` allocates. -/
theorem freshK : (opsK (F := F)).Forall fun op => op.fresh = ∅ := forall_fresh_of_map rfl
/-- The operations of `opsK` touch TensorCore buffers only. -/
theorem bufsK : (opsK (F := F)).Forall fun op => op.bufs ⊆ tcRefs τ sig := ⟨nullary_bufs_sub .., unary_bufs_sub .., unary_bufs_sub .., binary_bufs_sub .., unary_bufs_sub .., nullary_bufs_sub .., unary_bufs_sub .., binary_bufs_sub .., binary_bufs_sub .., nullary_bufs_sub .., unary_bufs_sub .., binary_bufs_sub ..⟩
/-- A buffer outside `outK` keeps its contents through `opsK`. -/
theorem keepK (V : Valuation τ sig (Elt F)) (r : Ref sig .tc) (h : r ∉ outK) : after (opsK (F := F)) V (Proc.devRef .tc r) = V (Proc.devRef .tc r) :=
  after_of_writes_sub opsK V writesK h

/-- Each operation of `opsL` writes within `outL`. -/
theorem writesL : (opsL (F := F)).Forall fun op => op.writes ⊆ (outL.map (Proc.devRef (τ := τ) .tc)).toFinset := forall_writes_sub_of_map rfl
/-- No operation of `opsL` allocates. -/
theorem freshL : (opsL (F := F)).Forall fun op => op.fresh = ∅ := forall_fresh_of_map rfl
/-- The operations of `opsL` touch TensorCore buffers only. -/
theorem bufsL : (opsL (F := F)).Forall fun op => op.bufs ⊆ tcRefs τ sig := ⟨unary_bufs_sub .., binary_bufs_sub .., unary_bufs_sub .., unary_bufs_sub .., binary_bufs_sub ..⟩
/-- A buffer outside `outL` keeps its contents through `opsL`. -/
theorem keepL (V : Valuation τ sig (Elt F)) (r : Ref sig .tc) (h : r ∉ outL) : after (opsL (F := F)) V (Proc.devRef .tc r) = V (Proc.devRef .tc r) :=
  after_of_writes_sub opsL V writesL h

/-- Each operation of `opsM` writes within `outM`. -/
theorem writesM : (opsM (F := F)).Forall fun op => op.writes ⊆ (outM.map (Proc.devRef (τ := τ) .tc)).toFinset := forall_writes_sub_of_map rfl
/-- No operation of `opsM` allocates. -/
theorem freshM : (opsM (F := F)).Forall fun op => op.fresh = ∅ := forall_fresh_of_map rfl
/-- The operations of `opsM` touch TensorCore buffers only. -/
theorem bufsM : (opsM (F := F)).Forall fun op => op.bufs ⊆ tcRefs τ sig := ⟨binary_bufs_sub .., nullary_bufs_sub .., binary_bufs_sub .., unary_bufs_sub .., unary_bufs_sub .., nullary_bufs_sub .., unary_bufs_sub .., binary_bufs_sub .., unary_bufs_sub .., binary_bufs_sub ..⟩
/-- A buffer outside `outM` keeps its contents through `opsM`. -/
theorem keepM (V : Valuation τ sig (Elt F)) (r : Ref sig .tc) (h : r ∉ outM) : after (opsM (F := F)) V (Proc.devRef .tc r) = V (Proc.devRef .tc r) :=
  after_of_writes_sub opsM V writesM h

/-- Each operation of `opsN` writes within `outN`. -/
theorem writesN : (opsN (F := F)).Forall fun op => op.writes ⊆ (outN.map (Proc.devRef (τ := τ) .tc)).toFinset := forall_writes_sub_of_map rfl
/-- No operation of `opsN` allocates. -/
theorem freshN : (opsN (F := F)).Forall fun op => op.fresh = ∅ := forall_fresh_of_map rfl
/-- The operations of `opsN` touch TensorCore buffers only. -/
theorem bufsN : (opsN (F := F)).Forall fun op => op.bufs ⊆ tcRefs τ sig := ⟨binary_bufs_sub .., nullary_bufs_sub .., binary_bufs_sub .., unary_bufs_sub .., unary_bufs_sub .., unary_bufs_sub .., binary_bufs_sub .., binary_bufs_sub .., nullary_bufs_sub .., binary_bufs_sub .., unary_bufs_sub .., unary_bufs_sub ..⟩
/-- A buffer outside `outN` keeps its contents through `opsN`. -/
theorem keepN (V : Valuation τ sig (Elt F)) (r : Ref sig .tc) (h : r ∉ outN) : after (opsN (F := F)) V (Proc.devRef .tc r) = V (Proc.devRef .tc r) :=
  after_of_writes_sub opsN V writesN h

/-- Each operation of `opsO` writes within `outO`. -/
theorem writesO : (opsO (F := F)).Forall fun op => op.writes ⊆ (outO.map (Proc.devRef (τ := τ) .tc)).toFinset := forall_writes_sub_of_map rfl
/-- No operation of `opsO` allocates. -/
theorem freshO : (opsO (F := F)).Forall fun op => op.fresh = ∅ := forall_fresh_of_map rfl
/-- The operations of `opsO` touch TensorCore buffers only. -/
theorem bufsO : (opsO (F := F)).Forall fun op => op.bufs ⊆ tcRefs τ sig := ⟨unary_bufs_sub .., unary_bufs_sub .., unary_bufs_sub .., binary_bufs_sub .., nullary_bufs_sub .., unary_bufs_sub .., binary_bufs_sub .., binary_bufs_sub ..⟩
/-- A buffer outside `outO` keeps its contents through `opsO`. -/
theorem keepO (V : Valuation τ sig (Elt F)) (r : Ref sig .tc) (h : r ∉ outO) : after (opsO (F := F)) V (Proc.devRef .tc r) = V (Proc.devRef .tc r) :=
  after_of_writes_sub opsO V writesO h

/-- Each operation of `opsQ` writes within `outQ`. -/
theorem writesQ : (opsQ (F := F)).Forall fun op => op.writes ⊆ (outQ.map (Proc.devRef (τ := τ) .tc)).toFinset := forall_writes_sub_of_map rfl
/-- No operation of `opsQ` allocates. -/
theorem freshQ : (opsQ (F := F)).Forall fun op => op.fresh = ∅ := forall_fresh_of_map rfl
/-- The operations of `opsQ` touch TensorCore buffers only. -/
theorem bufsQ : (opsQ (F := F)).Forall fun op => op.bufs ⊆ tcRefs τ sig := ⟨nullary_bufs_sub .., binary_bufs_sub .., nullary_bufs_sub .., nullary_bufs_sub .., nullary_bufs_sub .., quaternary_bufs_sub .., quaternary_bufs_sub .., reshape_bufs_sub .., reshape_bufs_sub ..⟩
/-- A buffer outside `outQ` keeps its contents through `opsQ`. -/
theorem keepQ (V : Valuation τ sig (Elt F)) (r : Ref sig .tc) (h : r ∉ outQ) : after (opsQ (F := F)) V (Proc.devRef .tc r) = V (Proc.devRef .tc r) :=
  after_of_writes_sub opsQ V writesQ h

/-- Every operation stays within the TensorCore buffers. -/
theorem all_bufs : ∀ op ∈ ops (F := F), op.bufs ⊆ tcRefs τ sig := fun op h => by
  simp only [ops, opsFirst, opsSecond, List.mem_append, or_assoc] at h
  rcases h with h | h | h | h | h | h | h | h | h | h | h | h | h | h | h | h
  exacts [List.forall_iff_forall_mem.mp (bufsA (F := F)) op h, List.forall_iff_forall_mem.mp (bufsB (F := F)) op h, List.forall_iff_forall_mem.mp (bufsC (F := F)) op h, List.forall_iff_forall_mem.mp (bufsD (F := F)) op h, List.forall_iff_forall_mem.mp (bufsE (F := F)) op h, List.forall_iff_forall_mem.mp (bufsF (F := F)) op h, List.forall_iff_forall_mem.mp (bufsG (F := F)) op h, List.forall_iff_forall_mem.mp (bufsH (F := F)) op h, List.forall_iff_forall_mem.mp (bufsI (F := F)) op h, List.forall_iff_forall_mem.mp (bufsJ (F := F)) op h, List.forall_iff_forall_mem.mp (bufsK (F := F)) op h, List.forall_iff_forall_mem.mp (bufsL (F := F)) op h, List.forall_iff_forall_mem.mp (bufsM (F := F)) op h, List.forall_iff_forall_mem.mp (bufsN (F := F)) op h, List.forall_iff_forall_mem.mp (bufsO (F := F)) op h, List.forall_iff_forall_mem.mp (bufsQ (F := F)) op h]

/-- No operation allocates. -/
theorem all_fresh : ∀ op ∈ ops (F := F), op.fresh = ∅ := fun op h => by
  simp only [ops, opsFirst, opsSecond, List.mem_append, or_assoc] at h
  rcases h with h | h | h | h | h | h | h | h | h | h | h | h | h | h | h | h
  exacts [List.forall_iff_forall_mem.mp (freshA (F := F)) op h, List.forall_iff_forall_mem.mp (freshB (F := F)) op h, List.forall_iff_forall_mem.mp (freshC (F := F)) op h, List.forall_iff_forall_mem.mp (freshD (F := F)) op h, List.forall_iff_forall_mem.mp (freshE (F := F)) op h, List.forall_iff_forall_mem.mp (freshF (F := F)) op h, List.forall_iff_forall_mem.mp (freshG (F := F)) op h, List.forall_iff_forall_mem.mp (freshH (F := F)) op h, List.forall_iff_forall_mem.mp (freshI (F := F)) op h, List.forall_iff_forall_mem.mp (freshJ (F := F)) op h, List.forall_iff_forall_mem.mp (freshK (F := F)) op h, List.forall_iff_forall_mem.mp (freshL (F := F)) op h, List.forall_iff_forall_mem.mp (freshM (F := F)) op h, List.forall_iff_forall_mem.mp (freshN (F := F)) op h, List.forall_iff_forall_mem.mp (freshO (F := F)) op h, List.forall_iff_forall_mem.mp (freshQ (F := F)) op h]

/-- Every execution of the reference ends with each buffer at what the operations leave there. -/
theorem run (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after (ops (F := F)) (launchContents m d) (Proc.devRef .tc b) :=
  run_seq noScopedRefs noScopedSems defs main (fun _ => ops (F := F)) main_eq (fun _ => List.forall_iff_forall_mem.mpr all_bufs) m ρ (hfresh := fun _ => all_fresh)

end Cert.ReferenceIdeal.Stage

end
-- ==== Proof.RefLast.lean ====
/-
  The last stretch of the reference: the greatest similarity of each row, and its position.
-/
module

public import proofs.«01_k».proof.Proof.RefOps

@[expose] public section

set_option maxRecDepth 8192

noncomputable section

namespace Cert.ReferenceIdeal.Stage

open Cert.ReferenceIdeal Cert.ReferenceIdeal.Gen Idealize.ShloMosaic Idealize.ShloMosaic.StableHlo Idealize.ShloMosaic.TcCoe Idealize.SL.Sem

/-- The greatest similarity of each row. -/
def best (s : FVec Ideal S1024x100000 .f32) : FVec Ideal S1x1024 .f32 :=
  shapeCast S1x1024 (Host.reduce FloatOps.maximumf s (constant S_ .f32 0xFF800000#32) reducesTo_S1024x100000_S1024_d1 h_S_) shapeCasts_S1024_S1x1024

/-- The position of the greatest similarity of each row. -/
def bestAt (s : FVec Ideal S1024x100000 .f32) : IVec S1x1024 32 :=
  shapeCast S1x1024 (fun j => (Host.argReduce reducer_argmax_f32_i32 s (iotaInDim S1024x100000 32 1) (constant S_ .f32 0xFF800000#32) (constantI S_ 32 0#32)
    reducesTo_S1024x100000_S1024_d1 h_S_ j).2) shapeCasts_S1024_S1x1024

/-- The last stretch over any reducing functions: it leaves their results, reshaped. -/
theorem lastLine {F : FTy → Type} [FloatOps F] (g : FVec F S1024x100000 .f32 → FVec F S_ .f32 → FVec F S1024 .f32)
    (f0 : FVec F S1024x100000 .f32 → IVec S1024x100000 32 → FVec F S_ .f32 → IVec S_ 32 → FVec F S1024 .f32)
    (f1 : FVec F S1024x100000 .f32 → IVec S1024x100000 32 → FVec F S_ .f32 → IVec S_ 32 → IVec S1024 32)
    (V : Valuation τ sig (Elt F)) :
    after (Val := Elt F) [ nullary main_cst_14 (constant S_ .f32 0xFF800000#32),
    binary main_v86 main_cst_14 main_v87 g,
    TRef.nullary (.of main_call5_v0 : TRef sig ⟨S1024x100000, .i32⟩) (iotaInDim S1024x100000 32 1),
    TRef.nullary (.of main_call5_cst : TRef sig ⟨S_, .f32⟩) (constant S_ .f32 0xFF800000#32),
    TRef.nullary (.of main_call5_c : TRef sig ⟨S_, .i32⟩) (constantI S_ 32 0#32),
    TRef.quaternary (.of main_v86 : TRef sig ⟨S1024x100000, .f32⟩) (.of main_call5_v0 : TRef sig ⟨S1024x100000, .i32⟩) (.of main_call5_cst : TRef sig ⟨S_, .f32⟩) (.of main_call5_c : TRef sig ⟨S_, .i32⟩) (.of main_call5_v1_0 : TRef sig ⟨S1024, .f32⟩) f0,
    TRef.quaternary (.of main_v86 : TRef sig ⟨S1024x100000, .f32⟩) (.of main_call5_v0 : TRef sig ⟨S1024x100000, .i32⟩) (.of main_call5_cst : TRef sig ⟨S_, .f32⟩) (.of main_call5_c : TRef sig ⟨S_, .i32⟩) (.of main_v88 : TRef sig ⟨S1024, .i32⟩) f1,
    reshape main_v87 main_v89 (rfl : (.f32 : EltTy) = .f32) shapeCasts_S1024_S1x1024,
    reshape main_v88 main_v90 (rfl : (.i32 : EltTy) = .i32) shapeCasts_S1024_S1x1024 ] V (Proc.devRef .tc main_v89)
      = shapeCast S1x1024 (g (V (Proc.devRef .tc main_v86)) (constant S_ .f32 0xFF800000#32)) shapeCasts_S1024_S1x1024
    ∧ after (Val := Elt F) [ nullary main_cst_14 (constant S_ .f32 0xFF800000#32),
    binary main_v86 main_cst_14 main_v87 g,
    TRef.nullary (.of main_call5_v0 : TRef sig ⟨S1024x100000, .i32⟩) (iotaInDim S1024x100000 32 1),
    TRef.nullary (.of main_call5_cst : TRef sig ⟨S_, .f32⟩) (constant S_ .f32 0xFF800000#32),
    TRef.nullary (.of main_call5_c : TRef sig ⟨S_, .i32⟩) (constantI S_ 32 0#32),
    TRef.quaternary (.of main_v86 : TRef sig ⟨S1024x100000, .f32⟩) (.of main_call5_v0 : TRef sig ⟨S1024x100000, .i32⟩) (.of main_call5_cst : TRef sig ⟨S_, .f32⟩) (.of main_call5_c : TRef sig ⟨S_, .i32⟩) (.of main_call5_v1_0 : TRef sig ⟨S1024, .f32⟩) f0,
    TRef.quaternary (.of main_v86 : TRef sig ⟨S1024x100000, .f32⟩) (.of main_call5_v0 : TRef sig ⟨S1024x100000, .i32⟩) (.of main_call5_cst : TRef sig ⟨S_, .f32⟩) (.of main_call5_c : TRef sig ⟨S_, .i32⟩) (.of main_v88 : TRef sig ⟨S1024, .i32⟩) f1,
    reshape main_v87 main_v89 (rfl : (.f32 : EltTy) = .f32) shapeCasts_S1024_S1x1024,
    reshape main_v88 main_v90 (rfl : (.i32 : EltTy) = .i32) shapeCasts_S1024_S1x1024 ] V (Proc.devRef .tc main_v90)
      = shapeCast S1x1024 (f1 (V (Proc.devRef .tc main_v86)) (iotaInDim S1024x100000 32 1) (constant S_ .f32 0xFF800000#32) (constantI S_ 32 0#32)) shapeCasts_S1024_S1x1024 := by
  simp only [TRef.unary, TRef.binary, TRef.nullary, TRef.ternary, TRef.quaternary, TRef.toBuf, TRef.ofBuf, cast_eq]
  constructor <;> (after_results_simp; rfl)

variable (V : Valuation τ sig (Elt Ideal))

/-- The last stretch leaves the greatest similarities. -/
theorem readQ : after opsQ V (Proc.devRef .tc main_v89) = best (V (Proc.devRef .tc main_v86)) := (lastLine _ _ _ V).1

/-- The last stretch leaves their positions. -/
theorem readQ' : after opsQ V (Proc.devRef .tc main_v90) = bestAt (V (Proc.devRef .tc main_v86)) := (lastLine _ _ _ V).2

end Cert.ReferenceIdeal.Stage

end
-- ==== Proof.RefStages.lean ====
/-
  The quantities of the reference as functions of arrays, and what each stretch of its operations leaves in the buffer that
  the next stretches read: the quantity of that name, of the buffers that the stretch reads.
-/
module

public import proofs.«01_k».proof.Proof.RefLast

@[expose] public section

set_option maxRecDepth 8192

noncomputable section

namespace Cert.ReferenceIdeal.Stage

open Cert.ReferenceIdeal Cert.ReferenceIdeal.Gen Idealize.ShloMosaic Idealize.ShloMosaic.StableHlo Idealize.ShloMosaic.TcCoe Idealize.SL.Sem

/-- The first projection. -/
def lin1 (x : FVec Ideal S1024x16x2048 .f32) (w : FVec Ideal S1024x2048 .f32) (b : FVec Ideal S1024 .f32) : FVec Ideal S1024x1024 .f32 :=
  addf (Host.dotGeneral dot_S1024x2048_S2048x1024_S1024x1024_1_0_0_1_n_n none
      (shapeCast S1024x2048 (extractStridedSlice S1024x1x2048 ![0, 0, 0] x slices_S1024x16x2048_S1024x1x2048_0_0_0) shapeCasts_S1024x1x2048_S1024x2048)
      (transpose S2048x1024 [1, 0] w transposes_S1024x2048_S2048x1024_1_0))
    (broadcastInDim S1024x1024 ![0, 1] bcast_S1x1024_S1024x1024_0_1 (broadcastInDim S1x1024 ![1] bcast_S1024_S1x1024_1 b))

/-- The means of the rows of 1024. -/
def mean1 (z : FVec Ideal S1024x1024 .f32) : FVec Ideal S1024x1 .f32 :=
  Host.divf (broadcastInDim S1024x1 ![0] bcast_S1024_S1024x1_0 (Host.reduceAdd z (constant S_ .f32 0x00000000#32) reducesTo_S1024x1024_S1024_d1 h_S_))
    (broadcastInDim S1024x1 ![] bcast_S_S1024x1 (constant S_ .f32 0x44800000#32))

/-- The variances of the rows of 1024: the mean squares of the distances from the mean, where their number is positive. -/
def var1 (z : FVec Ideal S1024x1024 .f32) (k : IVec S_ 32) : FVec Ideal S1024x1 .f32 :=
  let d := subf z (broadcastInDim S1024x1024 ![0, 1] bcast_S1024x1_S1024x1024_0_1 (mean1 z))
  let n : FVec Ideal S_ .f32 := subf (constant S_ .f32 0x44800000#32) (sitofp .f32 k)
  select (broadcastInDim S1024x1 ![] bcast_S_S1024x1 (cmpf .ogt n (constant S_ .f32 0x00000000#32)))
    (Host.divf (broadcastInDim S1024x1 ![0] bcast_S1024_S1024x1_0 (Host.reduceAdd (mulf d d) (constant S_ .f32 0x00000000#32) reducesTo_S1024x1024_S1024_d1 h_S_))
      (broadcastInDim S1024x1 ![] bcast_S_S1024x1 n))
    (broadcastInDim S1024x1 ![] bcast_S_S1024x1 (id (constant S_ .f32 0x7FC00000#32)))

/-- The layer normalization of the rows of 1024, from their means and variances. -/
def norm1 (z : FVec Ideal S1024x1024 .f32) (mu va : FVec Ideal S1024x1 .f32) (g β : FVec Ideal S1024 .f32) : FVec Ideal S1024x1024 .f32 :=
  addf (mulf (Host.divf (subf z (broadcastInDim S1024x1024 ![0, 1] bcast_S1024x1_S1024x1024_0_1 mu))
      (broadcastInDim S1024x1024 ![0, 1] bcast_S1024x1_S1024x1024_0_1 (Host.sqrt (addf va (broadcastInDim S1024x1 ![] bcast_S_S1024x1 (constant S_ .f32 0x3727C5AC#32))))))
      (broadcastInDim S1024x1024 ![0, 1] bcast_S1x1024_S1024x1024_0_1 (broadcastInDim S1x1024 ![1] bcast_S1024_S1x1024_1 g)))
    (broadcastInDim S1024x1024 ![0, 1] bcast_S1x1024_S1024x1024_0_1 (broadcastInDim S1x1024 ![1] bcast_S1024_S1x1024_1 β))

/-- The activation of the rows of 1024. -/
def gelu1 (y : FVec Ideal S1024x1024 .f32) : FVec Ideal S1024x1024 .f32 :=
  Host.divf (mulf y (addf (broadcastInDim S1024x1024 ![] bcast_S_S1024x1024 (constant S_ .f32 0x3F800000#32))
      (Host.erf (Host.divf y (broadcastInDim S1024x1024 ![] bcast_S_S1024x1024 (Host.sqrt (constant S_ .f32 0x40000000#32)))))))
    (broadcastInDim S1024x1024 ![] bcast_S_S1024x1024 (constant S_ .f32 0x40000000#32))

/-- The second projection. -/
def lin2 (x : FVec Ideal S1024x1024 .f32) (w : FVec Ideal S512x1024 .f32) (b : FVec Ideal S512 .f32) : FVec Ideal S1024x512 .f32 :=
  addf (Host.dotGeneral dot_S1024x1024_S1024x512_S1024x512_1_0_0_1_n_n none x (transpose S1024x512 [1, 0] w transposes_S512x1024_S1024x512_1_0))
    (broadcastInDim S1024x512 ![0, 1] bcast_S1x512_S1024x512_0_1 (broadcastInDim S1x512 ![1] bcast_S512_S1x512_1 b))

/-- The means of the rows of 512. -/
def mean2 (z : FVec Ideal S1024x512 .f32) : FVec Ideal S1024x1 .f32 :=
  Host.divf (broadcastInDim S1024x1 ![0] bcast_S1024_S1024x1_0 (Host.reduceAdd z (constant S_ .f32 0x00000000#32) reducesTo_S1024x512_S1024_d1 h_S_))
    (broadcastInDim S1024x1 ![] bcast_S_S1024x1 (constant S_ .f32 0x44000000#32))

/-- The variances of the rows of 512. -/
def var2 (z : FVec Ideal S1024x512 .f32) (k : IVec S_ 32) : FVec Ideal S1024x1 .f32 :=
  let d := subf z (broadcastInDim S1024x512 ![0, 1] bcast_S1024x1_S1024x512_0_1 (mean2 z))
  let n : FVec Ideal S_ .f32 := subf (constant S_ .f32 0x44000000#32) (sitofp .f32 k)
  select (broadcastInDim S1024x1 ![] bcast_S_S1024x1 (cmpf .ogt n (constant S_ .f32 0x00000000#32)))
    (Host.divf (broadcastInDim S1024x1 ![0] bcast_S1024_S1024x1_0 (Host.reduceAdd (mulf d d) (constant S_ .f32 0x00000000#32) reducesTo_S1024x512_S1024_d1 h_S_))
      (broadcastInDim S1024x1 ![] bcast_S_S1024x1 n))
    (broadcastInDim S1024x1 ![] bcast_S_S1024x1 (id (constant S_ .f32 0x7FC00000#32)))

/-- The distances of the rows of 512 from their means. -/
def dist2 (z : FVec Ideal S1024x512 .f32) (mu : FVec Ideal S1024x1 .f32) : FVec Ideal S1024x512 .f32 :=
  subf z (broadcastInDim S1024x512 ![0, 1] bcast_S1024x1_S1024x512_0_1 mu)

/-- The divisor of the second layer normalization. -/
def dev2 (va : FVec Ideal S1024x1 .f32) : FVec Ideal S1024x1 .f32 :=
  Host.sqrt (addf va (broadcastInDim S1024x1 ![] bcast_S_S1024x1 (constant S_ .f32 0x3727C5AC#32)))

/-- The second layer normalization, from the distances and the divisor. -/
def norm2 (d : FVec Ideal S1024x512 .f32) (s : FVec Ideal S1024x1 .f32) (g β : FVec Ideal S512 .f32) : FVec Ideal S1024x512 .f32 :=
  addf (mulf (Host.divf d (broadcastInDim S1024x512 ![0, 1] bcast_S1024x1_S1024x512_0_1 s))
      (broadcastInDim S1024x512 ![0, 1] bcast_S1x512_S1024x512_0_1 (broadcastInDim S1x512 ![1] bcast_S512_S1x512_1 g)))
    (broadcastInDim S1024x512 ![0, 1] bcast_S1x512_S1024x512_0_1 (broadcastInDim S1x512 ![1] bcast_S512_S1x512_1 β))

/-- The activation of the rows of 512. -/
def gelu2 (y : FVec Ideal S1024x512 .f32) : FVec Ideal S1024x512 .f32 :=
  Host.divf (mulf y (addf (broadcastInDim S1024x512 ![] bcast_S_S1024x512 (constant S_ .f32 0x3F800000#32))
      (Host.erf (Host.divf y (broadcastInDim S1024x512 ![] bcast_S_S1024x512 (Host.sqrt (constant S_ .f32 0x40000000#32)))))))
    (broadcastInDim S1024x512 ![] bcast_S_S1024x512 (constant S_ .f32 0x40000000#32))

/-- The third projection. -/
def lin3 (x : FVec Ideal S1024x512 .f32) (w : FVec Ideal S128x512 .f32) (b : FVec Ideal S128 .f32) : FVec Ideal S1024x128 .f32 :=
  addf (Host.dotGeneral dot_S1024x512_S512x128_S1024x128_1_0_0_1_n_n none x (transpose S512x128 [1, 0] w transposes_S128x512_S512x128_1_0))
    (broadcastInDim S1024x128 ![0, 1] bcast_S1x128_S1024x128_0_1 (broadcastInDim S1x128 ![1] bcast_S128_S1x128_1 b))

/-- The norms of the rows. -/
def rowNorm (z : FVec Ideal S1024x128 .f32) : FVec Ideal S1024x1 .f32 :=
  Host.sqrt (broadcastInDim S1024x1 ![0] bcast_S1024_S1024x1_0 (Host.reduceAdd (mulf z z) (constant S_ .f32 0x00000000#32) reducesTo_S1024x128_S1024_d1 h_S_))

/-- The rows divided by their norms, or by the least divisor. -/
def unit (z : FVec Ideal S1024x128 .f32) : FVec Ideal S1024x128 .f32 :=
  Host.divf z (broadcastInDim S1024x128 ![0, 1] bcast_S1024x1_S1024x128_0_1
    (maximumf (rowNorm z) (broadcastInDim S1024x1 ![] bcast_S_S1024x1 (constant S_ .f32 0x2B8CBCCC#32))))

/-- The norms of the memory rows. -/
def memNorm (t : FVec Ideal S100000x128 .f32) : FVec Ideal S100000x1 .f32 :=
  Host.sqrt (broadcastInDim S100000x1 ![0] bcast_S100000_S100000x1_0 (Host.reduceAdd (mulf t t) (constant S_ .f32 0x00000000#32) reducesTo_S100000x128_S100000_d1 h_S_))

/-- The products of the rows with the memory rows. -/
def prods (e : FVec Ideal S1024x128 .f32) (t : FVec Ideal S100000x128 .f32) : FVec Ideal S1024x100000 .f32 :=
  Host.dotGeneral dot_S1024x128_S128x100000_S1024x100000_1_0_0_1_n_n none e (transpose S128x100000 [1, 0] t transposes_S100000x128_S128x100000_1_0)

/-- The similarities: the products over the products of the norms, or over the least divisor. -/
def sims (p : FVec Ideal S1024x100000 .f32) (ne : FVec Ideal S1024x1 .f32) (nt : FVec Ideal S100000x1 .f32) : FVec Ideal S1024x100000 .f32 :=
  Host.divf p (maximumf
    (mulf (broadcastInDim S1024x100000 ![0, 1] bcast_S1024x1_S1024x100000_0_1 ne)
      (broadcastInDim S1024x100000 ![0, 1] bcast_S1x100000_S1024x100000_0_1 (transpose S1x100000 [1, 0] nt transposes_S100000x1_S1x100000_1_0)))
    (broadcastInDim S1024x100000 ![] bcast_S_S1024x100000 (constant S_ .f32 0x322BCC77#32)))

/-- The first hidden layer. -/
def hid1 (x : FVec Ideal S1024x16x2048 .f32) (w : FVec Ideal S1024x2048 .f32) (b g β : FVec Ideal S1024 .f32) : FVec Ideal S1024x1024 .f32 :=
  gelu1 (norm1 (lin1 x w b) (mean1 (lin1 x w b)) (var1 (lin1 x w b) (constantI S_ 32 0#32)) g β)

/-- The second hidden layer. -/
def hid2 (h : FVec Ideal S1024x1024 .f32) (w : FVec Ideal S512x1024 .f32) (b g β : FVec Ideal S512 .f32) : FVec Ideal S1024x512 .f32 :=
  gelu2 (norm2 (dist2 (lin2 h w b) (mean2 (lin2 h w b))) (dev2 (var2 (lin2 h w b) (constantI S_ 32 0#32))) g β)

/-- The similarities of encoded rows with the memory rows. -/
def simsOf (e : FVec Ideal S1024x128 .f32) (t : FVec Ideal S100000x128 .f32) : FVec Ideal S1024x100000 .f32 :=
  sims (prods (unit e) t) (rowNorm (unit e)) (memNorm t)

variable (V : Valuation τ sig (Elt Ideal))

/-- The first stretch leaves the first projection. -/
theorem readA : after opsA V (Proc.devRef .tc main_v6) = lin1 (V (Proc.devRef .tc main_arg0)) (V (Proc.devRef .tc main_arg1)) (V (Proc.devRef .tc main_arg2)) := by
  unfold opsA
  after_results_simp
  rfl

/-- The second stretch leaves the means of the projected rows. -/
theorem readB : after opsB V (Proc.devRef .tc main_v10) = mean1 (V (Proc.devRef .tc main_v6)) := by
  unfold opsB
  after_results_simp
  rfl

/-- The second stretch leaves the number zero for the variances. -/
theorem readB' : after opsB V (Proc.devRef .tc main_c) = constantI S_ 32 0#32 := by
  unfold opsB
  after_results_simp

/-- The third stretch leaves the variances. -/
theorem readC : after opsC V (Proc.devRef .tc main_v11) = var1 (V (Proc.devRef .tc main_v6)) (V (Proc.devRef .tc main_c)) := by
  simp only [opsC, TRef.unary, TRef.binary, TRef.nullary, TRef.ternary, TRef.quaternary, TRef.toBuf, TRef.ofBuf, cast_eq]
  after_results_simp
  rfl

/-- The fourth stretch leaves the normalized rows. -/
theorem readD : after opsD V (Proc.devRef .tc main_v24)
    = norm1 (V (Proc.devRef .tc main_v6)) (V (Proc.devRef .tc main_v10)) (V (Proc.devRef .tc main_v11)) (V (Proc.devRef .tc main_arg3)) (V (Proc.devRef .tc main_arg4)) := by
  unfold opsD
  after_results_simp
  rfl

/-- The fifth stretch leaves the activated rows. -/
theorem readE : after opsE V (Proc.devRef .tc main_v33) = gelu1 (V (Proc.devRef .tc main_v24)) := by
  unfold opsE
  after_results_simp
  rfl

/-- The sixth stretch leaves the second projection. -/
theorem readF : after opsF V (Proc.devRef .tc main_v38) = lin2 (V (Proc.devRef .tc main_v33)) (V (Proc.devRef .tc main_arg5)) (V (Proc.devRef .tc main_arg6)) := by
  unfold opsF
  after_results_simp
  rfl

/-- The seventh stretch leaves the means of the projected rows. -/
theorem readG : after opsG V (Proc.devRef .tc main_v42) = mean2 (V (Proc.devRef .tc main_v38)) := by
  unfold opsG
  after_results_simp
  rfl

/-- The seventh stretch leaves the number zero for the variances. -/
theorem readG' : after opsG V (Proc.devRef .tc main_c_7) = constantI S_ 32 0#32 := by
  unfold opsG
  after_results_simp

/-- The eighth stretch leaves the variances. -/
theorem readH : after opsH V (Proc.devRef .tc main_v43) = var2 (V (Proc.devRef .tc main_v38)) (V (Proc.devRef .tc main_c_7)) := by
  simp only [opsH, TRef.unary, TRef.binary, TRef.nullary, TRef.ternary, TRef.quaternary, TRef.toBuf, TRef.ofBuf, cast_eq]
  after_results_simp
  rfl

/-- The ninth stretch leaves the distances from the means. -/
theorem readI : after opsI V (Proc.devRef .tc main_v45) = dist2 (V (Proc.devRef .tc main_v38)) (V (Proc.devRef .tc main_v42)) := by
  unfold opsI
  after_results_simp
  rfl

/-- The ninth stretch leaves the divisor. -/
theorem readI' : after opsI V (Proc.devRef .tc main_v48) = dev2 (V (Proc.devRef .tc main_v43)) := by
  unfold opsI
  after_results_simp
  rfl

/-- The tenth stretch leaves the normalized rows. -/
theorem readJ : after opsJ V (Proc.devRef .tc main_v56)
    = norm2 (V (Proc.devRef .tc main_v45)) (V (Proc.devRef .tc main_v48)) (V (Proc.devRef .tc main_arg7)) (V (Proc.devRef .tc main_arg8)) := by
  unfold opsJ
  after_results_simp
  rfl

/-- The eleventh stretch leaves the activated rows. -/
theorem readK : after opsK V (Proc.devRef .tc main_v65) = gelu2 (V (Proc.devRef .tc main_v56)) := by
  unfold opsK
  after_results_simp
  rfl

/-- The twelfth stretch leaves the encoding. -/
theorem readL : after opsL V (Proc.devRef .tc main_v70) = lin3 (V (Proc.devRef .tc main_v65)) (V (Proc.devRef .tc main_arg9)) (V (Proc.devRef .tc main_arg10)) := by
  unfold opsL
  after_results_simp
  rfl

/-- The thirteenth stretch leaves the normalized encoding. -/
theorem readM : after opsM V (Proc.devRef .tc main_v75) = unit (V (Proc.devRef .tc main_v70)) := by
  simp only [opsM, TRef.unary, TRef.binary, TRef.nullary, TRef.ternary, TRef.quaternary, TRef.toBuf, TRef.ofBuf, cast_eq]
  after_results_simp
  rfl

/-- The fourteenth stretch leaves the norms of the memory rows. -/
theorem readN : after opsN V (Proc.devRef .tc main_v76) = memNorm (V (Proc.devRef .tc main_arg11)) := by
  simp only [opsN, TRef.unary, TRef.binary, TRef.nullary, TRef.ternary, TRef.quaternary, TRef.toBuf, TRef.ofBuf, cast_eq]
  after_results_simp
  rfl

/-- The fourteenth stretch leaves the products with the memory rows. -/
theorem readN' : after opsN V (Proc.devRef .tc main_v78) = prods (V (Proc.devRef .tc main_v75)) (V (Proc.devRef .tc main_arg11)) := by
  simp only [opsN, TRef.unary, TRef.binary, TRef.nullary, TRef.ternary, TRef.quaternary, TRef.toBuf, TRef.ofBuf, cast_eq]
  after_results_simp
  rfl

/-- The fourteenth stretch leaves the norms of the normalized rows. -/
theorem readN'' : after opsN V (Proc.devRef .tc main_v79) = rowNorm (V (Proc.devRef .tc main_v75)) := by
  simp only [opsN, TRef.unary, TRef.binary, TRef.nullary, TRef.ternary, TRef.quaternary, TRef.toBuf, TRef.ofBuf, cast_eq]
  after_results_simp
  rfl

/-- The fifteenth stretch leaves the similarities. -/
theorem readO : after opsO V (Proc.devRef .tc main_v86) = sims (V (Proc.devRef .tc main_v78)) (V (Proc.devRef .tc main_v79)) (V (Proc.devRef .tc main_v76)) := by
  unfold opsO
  after_results_simp
  rfl

/-- What the group's stretches do not write keeps its contents through them. -/
theorem keeps1 (r : Ref sig .tc) (h : r ∉ outA ++ outB ++ outC ++ outD ++ outE) :
    after opsE (after opsD (after opsC (after opsB (after opsA V)))) (Proc.devRef .tc r) = V (Proc.devRef .tc r) := by
  simp only [List.mem_append, not_or] at h
  obtain ⟨⟨⟨⟨aA, aB⟩, aC⟩, aD⟩, aE⟩ := h
  rw [keepE _ r aE, keepD _ r aD, keepC _ r aC, keepB _ r aB, keepA _ r aA]

/-- The first five stretches leave the first hidden layer. -/
theorem layer1 : after opsE (after opsD (after opsC (after opsB (after opsA V)))) (Proc.devRef .tc main_v33)
    = hid1 (V (Proc.devRef .tc main_arg0)) (V (Proc.devRef .tc main_arg1)) (V (Proc.devRef .tc main_arg2)) (V (Proc.devRef .tc main_arg3)) (V (Proc.devRef .tc main_arg4)) := by
  rw [readE, readD, readC, keepC _ main_v6 (by decide), keepC _ main_v10 (by decide), keepC _ main_arg3 (by decide), keepC _ main_arg4 (by decide), readB, readB', keepB _ main_v6 (by decide), keepB _ main_arg3 (by decide), keepB _ main_arg4 (by decide), readA, keepA _ main_arg3 (by decide), keepA _ main_arg4 (by decide)]
  rfl

/-- What the group's stretches do not write keeps its contents through them. -/
theorem keeps2 (r : Ref sig .tc) (h : r ∉ outF ++ outG ++ outH ++ outI ++ outJ ++ outK) :
    after opsK (after opsJ (after opsI (after opsH (after opsG (after opsF V))))) (Proc.devRef .tc r) = V (Proc.devRef .tc r) := by
  simp only [List.mem_append, not_or] at h
  obtain ⟨⟨⟨⟨⟨aF, aG⟩, aH⟩, aI⟩, aJ⟩, aK⟩ := h
  rw [keepK _ r aK, keepJ _ r aJ, keepI _ r aI, keepH _ r aH, keepG _ r aG, keepF _ r aF]

/-- The next six stretches leave the second hidden layer. -/
theorem layer2 : after opsK (after opsJ (after opsI (after opsH (after opsG (after opsF V))))) (Proc.devRef .tc main_v65)
    = hid2 (V (Proc.devRef .tc main_v33)) (V (Proc.devRef .tc main_arg5)) (V (Proc.devRef .tc main_arg6)) (V (Proc.devRef .tc main_arg7)) (V (Proc.devRef .tc main_arg8)) := by
  rw [readK, readJ, readI, readI', keepI _ main_arg7 (by decide), keepI _ main_arg8 (by decide), readH, keepH _ main_v38 (by decide), keepH _ main_v42 (by decide), keepH _ main_arg7 (by decide), keepH _ main_arg8 (by decide), readG, readG', keepG _ main_v38 (by decide), keepG _ main_arg7 (by decide), keepG _ main_arg8 (by decide), readF, keepF _ main_arg7 (by decide), keepF _ main_arg8 (by decide)]
  rfl

/-- What the group's stretches do not write keeps its contents through them. -/
theorem keeps3 (r : Ref sig .tc) (h : r ∉ outL ++ outM ++ outN ++ outO ++ outQ) :
    after opsQ (after opsO (after opsN (after opsM (after opsL V)))) (Proc.devRef .tc r) = V (Proc.devRef .tc r) := by
  simp only [List.mem_append, not_or] at h
  obtain ⟨⟨⟨⟨aL, aM⟩, aN⟩, aO⟩, aQ⟩ := h
  rw [keepQ _ r aQ, keepO _ r aO, keepN _ r aN, keepM _ r aM, keepL _ r aL]

/-- The next four stretches leave the similarities. -/
theorem layer3 : after opsO (after opsN (after opsM (after opsL V))) (Proc.devRef .tc main_v86)
    = simsOf (lin3 (V (Proc.devRef .tc main_v65)) (V (Proc.devRef .tc main_arg9)) (V (Proc.devRef .tc main_arg10))) (V (Proc.devRef .tc main_arg11)) := by
  rw [readO, readN, readN', readN'', readM, keepM _ main_arg11 (by decide), readL, keepL _ main_arg11 (by decide)]
  rfl

/-- The encoding, of the launch contents. -/
def encOf : FVec Ideal S1024x128 .f32 :=
  lin3 (hid2 (hid1 (V (Proc.devRef .tc main_arg0)) (V (Proc.devRef .tc main_arg1)) (V (Proc.devRef .tc main_arg2)) (V (Proc.devRef .tc main_arg3)) (V (Proc.devRef .tc main_arg4))) (V (Proc.devRef .tc main_arg5)) (V (Proc.devRef .tc main_arg6)) (V (Proc.devRef .tc main_arg7)) (V (Proc.devRef .tc main_arg8))) (V (Proc.devRef .tc main_arg9)) (V (Proc.devRef .tc main_arg10))

/-- Two lines one after the other are the first and then the second. -/
theorem after_two (l l' : List (HloOp τ sig (Elt Ideal))) : after (l ++ l') V = after l' (after l V) := by
  induction l generalizing V with
  | nil => rfl
  | cons op l ih => exact ih (op.result V)

/-- All operations in order are the three groups in order. -/
theorem after_ops : after ops V = after opsQ (after opsO (after opsN (after opsM (after opsL
    (after opsK (after opsJ (after opsI (after opsH (after opsG (after opsF
    (after opsE (after opsD (after opsC (after opsB (after opsA V))))))))))))))) := by
  unfold ops opsFirst opsSecond
  simp only [after_two]

/-- The similarities that the whole line computes. -/
theorem sims_read : after opsO (after opsN (after opsM (after opsL
    (after opsK (after opsJ (after opsI (after opsH (after opsG (after opsF
    (after opsE (after opsD (after opsC (after opsB (after opsA V)))))))))))))) (Proc.devRef .tc main_v86)
    = simsOf (encOf V) (V (Proc.devRef .tc main_arg11)) := by
  rw [layer3, layer2, keeps2 _ main_arg9 (by decide), keeps2 _ main_arg10 (by decide), keeps2 _ main_arg11 (by decide), layer1,
    keeps1 _ main_arg5 (by decide), keeps1 _ main_arg6 (by decide), keeps1 _ main_arg7 (by decide), keeps1 _ main_arg8 (by decide),
    keeps1 _ main_arg9 (by decide), keeps1 _ main_arg10 (by decide), keeps1 _ main_arg11 (by decide)]
  rfl

/-- The first result of the reference. -/
theorem result0 : after ops V (Proc.devRef .tc main_v89) = best (simsOf (encOf V) (V (Proc.devRef .tc main_arg11))) := by
  rw [after_ops, readQ, sims_read]

/-- The second result of the reference. -/
theorem result1 : after ops V (Proc.devRef .tc main_v90) = bestAt (simsOf (encOf V) (V (Proc.devRef .tc main_arg11))) := by
  rw [after_ops, readQ', sims_read]

/-- A buffer that no operation writes keeps its contents. -/
theorem kept (r : Ref sig .tc) (h1 : r ∉ outA ++ outB ++ outC ++ outD ++ outE) (h2 : r ∉ outF ++ outG ++ outH ++ outI ++ outJ ++ outK)
    (h3 : r ∉ outL ++ outM ++ outN ++ outO ++ outQ) : after ops V (Proc.devRef .tc r) = V (Proc.devRef .tc r) := by
  rw [after_ops, keeps3 _ r h3, keeps2 _ r h2, keeps1 _ r h1]

end Cert.ReferenceIdeal.Stage

end
-- ==== Proof.RefValue.lean ====
/-
  The reference's arrays read entry by entry, in the words of the plain functions: the two hidden layers, the encoding, and
  the similarities with the memory rows.
-/
module

public import proofs.«01_k».proof.Proof.RefStages
public import proofs.«01_k».proof.Proof.Spec

@[expose] public section

set_option maxRecDepth 16384

noncomputable section

namespace Cert.ReferenceIdeal.Stage

open Cert.ReferenceIdeal Cert.ReferenceIdeal.Gen Idealize.ShloMosaic Idealize.ShloMosaic.StableHlo Idealize.ShloMosaic.TcCoe Idealize.ShloMosaic.Tactic Cert.Spec

/-- The first projection. -/
theorem lin1_at (x : FVec Ideal S1024x16x2048 .f32) (w : FVec Ideal S1024x2048 .f32) (v : FVec Ideal S1024 .f32) (b j : Fin 1024) :
    lin1 x w v (ix2 b j) = lin (fun k : Fin 2048 => x (ix3 b 0 k)) (fun (j : Fin 1024) k => w (ix2 j k)) (fun j => v (ix1 j)) j := by
  pointwise [lin1]
  rfl

/-- The means of the first layer. -/
theorem mean1_at (z : FVec Ideal S1024x1024 .f32) (b : Fin 1024) :
    mean1 z (ix2 b 0) = mean n1 (fun j : Fin 1024 => z (ix2 b j)) := by
  pointwise [mean1]
  rfl

/-- The number of a row's entries, less the zero degrees of freedom, is positive. -/
theorem count_pos (n : EReal) (r : ℝ) (hr : 0 < r) (h : n = (r : EReal)) :
    n - FloatOps.sitofp (F := Ideal) .f32 (0#32) = n ∧ 0 < n := by
  constructor
  · have h0 : FloatOps.sitofp (F := Ideal) .f32 (0#32) = (0 : EReal) := by
      show ((((0#32).toInt : ℤ) : ℝ) : EReal) = 0
      simp
    rw [h0, sub_zero]
  · rw [h]
    exact EReal.coe_pos.mpr hr

/-- The variances of the first layer. -/
theorem var1_at (z : FVec Ideal S1024x1024 .f32) (b : Fin 1024) :
    var1 z (constantI S_ 32 0#32) (ix2 b 0) = Ideal.div (spread n1 (fun j : Fin 1024 => z (ix2 b j))) n1 := by
  pointwise [var1, mean1]
  have h := count_pos n1 1024 (by norm_num) n1_eq
  rw [h.1, if_pos h.2]
  rfl

/-- The first layer normalization. -/
theorem norm1_at (z : FVec Ideal S1024x1024 .f32) (mu va : FVec Ideal S1024x1 .f32) (g β : FVec Ideal S1024 .f32) (b j : Fin 1024) :
    norm1 z mu va g β (ix2 b j)
      = Ideal.div (z (ix2 b j) - mu (ix2 b 0)) (Ideal.sqrt (va (ix2 b 0) + eps)) * g (ix1 j) + β (ix1 j) := by
  pointwise [norm1]

/-- The activation of the first layer. -/
theorem gelu1_at (y : FVec Ideal S1024x1024 .f32) (b j : Fin 1024) : gelu1 y (ix2 b j) = geluQ (y (ix2 b j)) := by
  pointwise [gelu1]
  rw [two]
  rfl

/-- The second projection. -/
theorem lin2_at (x : FVec Ideal S1024x1024 .f32) (w : FVec Ideal S512x1024 .f32) (v : FVec Ideal S512 .f32) (b : Fin 1024) (j : Fin 512) :
    lin2 x w v (ix2 b j) = lin (fun k : Fin 1024 => x (ix2 b k)) (fun (j : Fin 512) k => w (ix2 j k)) (fun j => v (ix1 j)) j := by
  pointwise [lin2]
  rfl

/-- The means of the second layer. -/
theorem mean2_at (z : FVec Ideal S1024x512 .f32) (b : Fin 1024) :
    mean2 z (ix2 b 0) = mean n2 (fun j : Fin 512 => z (ix2 b j)) := by
  pointwise [mean2]
  rfl

/-- The variances of the second layer. -/
theorem var2_at (z : FVec Ideal S1024x512 .f32) (b : Fin 1024) :
    var2 z (constantI S_ 32 0#32) (ix2 b 0) = Ideal.div (spread n2 (fun j : Fin 512 => z (ix2 b j))) n2 := by
  pointwise [var2, mean2]
  have h := count_pos n2 512 (by norm_num) n2_eq
  rw [h.1, if_pos h.2]
  rfl

/-- The distances of the second layer. -/
theorem dist2_at (z : FVec Ideal S1024x512 .f32) (mu : FVec Ideal S1024x1 .f32) (b : Fin 1024) (j : Fin 512) :
    dist2 z mu (ix2 b j) = z (ix2 b j) - mu (ix2 b 0) := by
  pointwise [dist2]

/-- The divisors of the second layer. -/
theorem dev2_at (va : FVec Ideal S1024x1 .f32) (b : Fin 1024) : dev2 va (ix2 b 0) = Ideal.sqrt (va (ix2 b 0) + eps) := by
  pointwise [dev2]

/-- The second layer normalization. -/
theorem norm2_at (d : FVec Ideal S1024x512 .f32) (s : FVec Ideal S1024x1 .f32) (g β : FVec Ideal S512 .f32) (b : Fin 1024) (j : Fin 512) :
    norm2 d s g β (ix2 b j) = Ideal.div (d (ix2 b j)) (s (ix2 b 0)) * g (ix1 j) + β (ix1 j) := by
  pointwise [norm2]

/-- The activation of the second layer. -/
theorem gelu2_at (y : FVec Ideal S1024x512 .f32) (b : Fin 1024) (j : Fin 512) : gelu2 y (ix2 b j) = geluQ (y (ix2 b j)) := by
  pointwise [gelu2]
  rw [two]
  rfl

/-- The last projection. -/
theorem lin3_at (x : FVec Ideal S1024x512 .f32) (w : FVec Ideal S128x512 .f32) (v : FVec Ideal S128 .f32) (b : Fin 1024) (j : Fin 128) :
    lin3 x w v (ix2 b j) = lin (fun k : Fin 512 => x (ix2 b k)) (fun (j : Fin 128) k => w (ix2 j k)) (fun j => v (ix1 j)) j := by
  pointwise [lin3]
  rfl

/-- The first hidden layer. -/
theorem hid1_at (x : FVec Ideal S1024x16x2048 .f32) (w : FVec Ideal S1024x2048 .f32) (v g β : FVec Ideal S1024 .f32) (b j : Fin 1024) :
    hid1 x w v g β (ix2 b j)
      = layer n1 (fun k : Fin 2048 => x (ix3 b 0 k)) (fun (j : Fin 1024) k => w (ix2 j k)) (fun j => v (ix1 j)) (fun j => g (ix1 j)) (fun j => β (ix1 j)) j := by
  unfold hid1
  rw [gelu1_at, geluQ_eq, norm1_at, mean1_at, var1_at]
  simp only [lin1_at]
  rfl

/-- The second hidden layer. -/
theorem hid2_at (h : FVec Ideal S1024x1024 .f32) (w : FVec Ideal S512x1024 .f32) (v g β : FVec Ideal S512 .f32) (b : Fin 1024) (j : Fin 512) :
    hid2 h w v g β (ix2 b j)
      = layer n2 (fun k : Fin 1024 => h (ix2 b k)) (fun (j : Fin 512) k => w (ix2 j k)) (fun j => v (ix1 j)) (fun j => g (ix1 j)) (fun j => β (ix1 j)) j := by
  unfold hid2
  rw [gelu2_at, geluQ_eq, norm2_at, dist2_at, dev2_at, mean2_at, var2_at]
  simp only [lin2_at]
  rfl

/-- The encoding. -/
theorem enc_at (a0 : FVec Ideal S1024x16x2048 .f32) (a1 : FVec Ideal S1024x2048 .f32) (a2 a3 a4 : FVec Ideal S1024 .f32)
    (a5 : FVec Ideal S512x1024 .f32) (a6 a7 a8 : FVec Ideal S512 .f32) (a9 : FVec Ideal S128x512 .f32) (a10 : FVec Ideal S128 .f32) (b : Fin 1024) (j : Fin 128) :
    lin3 (hid2 (hid1 a0 a1 a2 a3 a4) a5 a6 a7 a8) a9 a10 (ix2 b j)
      = encRow (fun k => a0 (ix3 b 0 k)) (fun j k => a1 (ix2 j k)) (fun j => a2 (ix1 j)) (fun j => a3 (ix1 j)) (fun j => a4 (ix1 j))
          (fun j k => a5 (ix2 j k)) (fun j => a6 (ix1 j)) (fun j => a7 (ix1 j)) (fun j => a8 (ix1 j)) (fun j k => a9 (ix2 j k)) (fun j => a10 (ix1 j)) j := by
  rw [lin3_at]
  simp only [hid2_at, hid1_at]
  rfl

/-- The norms of the encoding. -/
theorem rowNorm_at (z : FVec Ideal S1024x128 .f32) (b : Fin 1024) :
    rowNorm z (ix2 b 0) = norm (fun j : Fin 128 => z (ix2 b j)) := by
  pointwise [rowNorm]
  rfl

/-- The similarities. -/
theorem sims_at (p : FVec Ideal S1024x100000 .f32) (ne : FVec Ideal S1024x1 .f32) (nt : FVec Ideal S100000x1 .f32) (b : Fin 1024) (r : Fin 100000) :
    sims p ne nt (ix2 b r) = Ideal.div (p (ix2 b r)) (max (ne (ix2 b 0) * nt (ix2 r 0)) c8) := by
  pointwise [sims]

/-- The products. -/
theorem prods_at (e : FVec Ideal S1024x128 .f32) (t : FVec Ideal S100000x128 .f32) (b : Fin 1024) (r : Fin 100000) :
    prods e t (ix2 b r) = ∑ j : Fin 128, e (ix2 b j) * t (ix2 r j) := by
  pointwise [prods]

/-- The scaled encoding. -/
theorem unit_at (z : FVec Ideal S1024x128 .f32) (b : Fin 1024) (j : Fin 128) :
    unit z (ix2 b j) = Spec.unit c12 (fun j : Fin 128 => z (ix2 b j)) j := by
  pointwise [unit, rowNorm]
  rfl

/-- The norms of the memory rows. -/
theorem memNorm_at (t : FVec Ideal S100000x128 .f32) (r : Fin 100000) :
    memNorm t (ix2 r 0) = norm (fun j : Fin 128 => t (ix2 r j)) := by
  pointwise [memNorm]
  rfl

/-- The similarities of encoded rows with the memory rows. -/
theorem simsOf_at (z : FVec Ideal S1024x128 .f32) (t : FVec Ideal S100000x128 .f32) (b : Fin 1024) (r : Fin 100000) :
    simsOf z t (ix2 b r) = simR c8 (Spec.unit c12 (fun j : Fin 128 => z (ix2 b j))) (fun j => t (ix2 r j)) := by
  unfold simsOf
  rw [sims_at, prods_at, rowNorm_at, memNorm_at]
  simp only [unit_at]
  rfl

end Cert.ReferenceIdeal.Stage

end
-- ==== Proof.PreRead.lean ====
/-
  What the condition on the inputs says: each row of the encoding has a norm that reaches the least divisor, or the norm zero.
-/
module

public import proofs.«01_k».proof.Proof.RefValue
public import proofs.«01_k».proof.Proof.Gen.Pre_encoding_normalized

@[expose] public section

set_option maxRecDepth 16384

noncomputable section

namespace Cert.ReferenceIdeal.Stage

open Cert.ReferenceIdeal Cert.ReferenceIdeal.Gen Idealize.ShloMosaic Idealize.ShloMosaic.TcCoe Idealize.ShloMosaic.Tactic Cert.Spec

/-- The condition on an encoding: of each row, whether its norm reaches the least divisor or is zero. -/
def normalized (z : FVec Ideal S1024x128 .f32) : IVec S1024 1 :=
  ori (cmpf .oge (Cert.Pre_encoding_normalized.fn_norm z) (broadcastInDim S1024 ![] Cert.Pre_encoding_normalized.Facts.bcast_S_S1024 (constant Cert.Pre_encoding_normalized.S_ .f32 0x2B8CBCCC#32)))
    (cmpf .oeq (Cert.Pre_encoding_normalized.fn_norm z) (broadcastInDim S1024 ![] Cert.Pre_encoding_normalized.Facts.bcast_S_S1024 (constant Cert.Pre_encoding_normalized.S_ .f32 0x00000000#32)))

/-- The condition is that of the encoding. -/
theorem pre_eq (a0 : FVec Ideal S1024x16x2048 .f32) (a1 : FVec Ideal S1024x2048 .f32) (a2 a3 a4 : FVec Ideal S1024 .f32)
    (a5 : FVec Ideal S512x1024 .f32) (a6 a7 a8 : FVec Ideal S512 .f32) (a9 : FVec Ideal S128x512 .f32) (a10 : FVec Ideal S128 .f32) (a11 : FVec Ideal S100000x128 .f32) :
    Cert.Pre_encoding_normalized.fn (F := Ideal) a0 a1 a2 a3 a4 a5 a6 a7 a8 a9 a10 a11
      = normalized (lin3 (hid2 (hid1 a0 a1 a2 a3 a4) a5 a6 a7 a8) a9 a10) := rfl

/-- The condition at a row. -/
theorem normalized_at (z : FVec Ideal S1024x128 .f32) (b : Fin 1024) (h : normalized z (ix1 b) = 1#1) :
    c12 ≤ norm (fun j : Fin 128 => z (ix2 b j)) ∨ norm (fun j : Fin 128 => z (ix2 b j)) = 0 := by
  revert h
  pointwise [normalized, Cert.Pre_encoding_normalized.fn_norm]
  intro h
  by_cases h1 : c12 ≤ norm (fun j : Fin 128 => z (ix2 b j))
  · exact Or.inl h1
  by_cases h2 : norm (fun j : Fin 128 => z (ix2 b j)) = 0
  · exact Or.inr h2
  exfalso
  have e1 : ¬ Ideal.ofBits FTy.f32 0x2B8CBCCC#32 ≤ Ideal.sqrt (∑ x : Fin 128, z (ix2 b x) * z (ix2 b x)) := h1
  have e2 : ¬ Ideal.sqrt (∑ x : Fin 128, z (ix2 b x) * z (ix2 b x)) = 0 := h2
  rw [decide_eq_false e1, decide_eq_false e2] at h
  exact absurd h (by decide)

/-- Under the condition, each row of the encoding has a norm that reaches the least divisor, or the norm zero. -/
theorem pre_at (a0 : FVec Ideal S1024x16x2048 .f32) (a1 : FVec Ideal S1024x2048 .f32) (a2 a3 a4 : FVec Ideal S1024 .f32)
    (a5 : FVec Ideal S512x1024 .f32) (a6 a7 a8 : FVec Ideal S512 .f32) (a9 : FVec Ideal S128x512 .f32) (a10 : FVec Ideal S128 .f32) (a11 : FVec Ideal S100000x128 .f32)
    (h : Cert.Pre_encoding_normalized.fn (F := Ideal) a0 a1 a2 a3 a4 a5 a6 a7 a8 a9 a10 a11 = fun _ => 1#1) (b : Fin 1024) :
    c12 ≤ norm (fun j : Fin 128 => lin3 (hid2 (hid1 a0 a1 a2 a3 a4) a5 a6 a7 a8) a9 a10 (ix2 b j))
      ∨ norm (fun j : Fin 128 => lin3 (hid2 (hid1 a0 a1 a2 a3 a4) a5 a6 a7 a8) a9 a10 (ix2 b j)) = 0 :=
  normalized_at _ b (by rw [← pre_eq a0 a1 a2 a3 a4 a5 a6 a7 a8 a9 a10 a11, h])

end Cert.ReferenceIdeal.Stage

end
-- ==== Proof.RefBest.lean ====
/-
  The reference's last reductions: the greatest similarity of each row, and the first position that has it, whatever order
  the positions are met in.
-/
module

public import proofs.«01_k».proof.Proof.RefLast
public import proofs.«01_k».proof.Proof.Best
public import Idealize.ShloMosaic.Lib.Pointwise
public import Idealize.ShloMosaic.PureOps.Ideal.Laws

@[expose] public section

set_option maxRecDepth 16384

noncomputable section

namespace Cert.ReferenceIdeal.Stage

open Cert.ReferenceIdeal Cert.ReferenceIdeal.Gen Idealize.ShloMosaic Idealize.ShloMosaic.StableHlo Idealize.ShloMosaic.TcCoe Idealize.ShloMosaic.Tactic Cert.Best

/-- The start of both reductions. -/
theorem bot_literal : Ideal.ofBits .f32 0xFF800000#32 = ⊥ := by
  simp [Ideal.ofBits, Ideal.ieee]

/-- Signed comparison of words that hold small naturals. -/
theorem word_slt {a b : ℕ} (ha : a < 2147483648) (hb : b < 2147483648) :
    (BitVec.ofNat 32 a).slt (BitVec.ofNat 32 b) = decide (a < b) := by
  rw [BitVec.slt, BitVec.toInt_eq_toNat_of_lt, BitVec.toInt_eq_toNat_of_lt] <;> simp <;> omega

/-- The reducer on words of small naturals: the pair with the greater value, among equals the one with the smaller position. -/
theorem reducer_eq (x y : EReal) (a b : ℕ) (ha : a < 2147483648) (hb : b < 2147483648) :
    reducer_argmax_f32_i32 (F := Ideal) (x, BitVec.ofNat 32 a) (y, BitVec.ofNat 32 b)
      = if y < x ∨ (x = y ∧ a < b) then (x, BitVec.ofNat 32 a) else (y, BitVec.ofNat 32 b) := by
  unfold reducer_argmax_f32_i32
  simp only [Ideal.cmpf_def, Ideal.cmp, IntOp.cmpi, word_slt ha hb]
  rcases lt_trichotomy y x with h | h | h
  · have h1 : ¬ x = y := h.ne'
    simp [h, h1, Scalar.select, IntOp.ori, IntOp.andi]
  · subst h
    by_cases hab : a < b <;> simp [hab, Scalar.select, IntOp.ori, IntOp.andi]
  · have h1 : ¬ x = y := h.ne
    have h2 : ¬ y < x := h.not_gt
    simp [h1, h2, Scalar.select, IntOp.ori, IntOp.andi]

/-- The fold over any list of places: its value bounds all of them, its position is the smallest among the places of that
    value, and it is one of the places or the start. -/
theorem foldl_spec (f : ℕ → EReal) (l : List ℕ) (hl : ∀ i ∈ l, i < 2147483648) :
    ∃ T r, (l.map fun i => (f i, BitVec.ofNat 32 i)).foldl (reducer_argmax_f32_i32 (F := Ideal)) ((⊥ : EReal), BitVec.ofNat 32 0)
        = (T, BitVec.ofNat 32 r)
      ∧ r < 2147483648 ∧ (∀ i ∈ l, f i ≤ T) ∧ (∀ i ∈ l, f i = T → r ≤ i) ∧ ((T = ⊥ ∧ r = 0) ∨ (r ∈ l ∧ f r = T)) := by
  induction l using List.reverseRecOn with
  | nil => exact ⟨⊥, 0, rfl, by omega, by simp, by simp, Or.inl ⟨rfl, rfl⟩⟩
  | append_singleton l a ih =>
    obtain ⟨T, r, e, hr, hle, hmin, hor⟩ := ih fun i hi => hl i (List.mem_append_left _ hi)
    have ha : a < 2147483648 := hl a (by simp)
    rw [List.map_append, List.foldl_append, e]
    simp only [List.map_cons, List.map_nil, List.foldl_cons, List.foldl_nil]
    rw [reducer_eq T (f a) r a hr ha]
    by_cases h : f a < T ∨ (T = f a ∧ r < a)
    · refine ⟨T, r, if_pos h, hr, fun i hi => ?_, fun i hi ei => ?_, ?_⟩
      · rcases List.mem_append.mp hi with hi | hi
        · exact hle i hi
        · obtain rfl : i = a := by simpa using hi
          rcases h with h | h
          · exact h.le
          · exact h.1.symm.le
      · rcases List.mem_append.mp hi with hi | hi
        · exact hmin i hi ei
        · obtain rfl : i = a := by simpa using hi
          rcases h with h | h
          · exact absurd ei h.ne
          · exact h.2.le
      · rcases hor with h0 | h0
        · exact Or.inl h0
        · exact Or.inr ⟨List.mem_append_left _ h0.1, h0.2⟩
    · have h1 : T ≤ f a := not_lt.mp fun hc => h (Or.inl hc)
      refine ⟨f a, a, if_neg h, ha, fun i hi => ?_, fun i hi ei => ?_, Or.inr ⟨by simp, rfl⟩⟩
      · rcases List.mem_append.mp hi with hi | hi
        · exact (hle i hi).trans h1
        · obtain rfl : i = a := by simpa using hi
          exact le_rfl
      · rcases List.mem_append.mp hi with hi | hi
        · have hT : T = f a := le_antisymm h1 (ei ▸ hle i hi)
          have hri := hmin i hi (ei.trans hT.symm)
          by_contra hc
          exact h (Or.inr ⟨hT, by omega⟩)
        · obtain rfl : i = a := by simpa using hi
          exact le_rfl

/-- The greatest similarity of a row. -/
theorem best_at (s : FVec Ideal S1024x100000 .f32) (b : Fin 1024) :
    best s (ix2 0 b) = (Finset.univ : Finset (Fin 100000)).fold max ⊥ fun r => s (ix2 b r) := by
  pointwise [best]
  rw [bot_literal]

/-- A row of 1024 written as a single row of a matrix. -/
theorem cast_at {α : Type} (g : S1024.Idx → α) (b : Fin 1024) : shapeCast S1x1024 g shapeCasts_S1024_S1x1024 (ix2 0 b) = g (ix1 b) := by
  pointwise

/-- The position that the reduction finds along the second axis of a matrix is the first place of the greatest entry. -/
theorem arg_best {n0 n1 : ℕ} (x : FVec Ideal ⟨2, ![n0, n1]⟩ .f32) {u : Shape} (ix : FVec Ideal u .f32) (iy : IVec u 32)
    (h : (⟨2, ![n0, n1]⟩ : Shape).ReducesTo [1] ⟨1, ![n0]⟩) (hu : 0 < u.numel) (hx : ∀ i, ix i = (⊥ : EReal)) (hy : ∀ i, iy i = BitVec.ofNat 32 0)
    (b : Fin n0) (f : ℕ → EReal) (hf : ∀ k : Fin n1, f k.val = x (ix2 b k)) (h0 : 0 < n1) (h1 : n1 < 2147483648) :
    ∃ T r, Best f n1 T r
      ∧ (Host.argReduce reducer_argmax_f32_i32 x (iotaInDim ⟨2, ![n0, n1]⟩ 32 1) ix iy h hu (ix1 b)).2 = BitVec.ofNat 32 r := by
  rw [Ideal.argReduce_eq_reduce2, Host.reduce2_eq_foldl_fiber, hx, hy]
  have hfib : ∀ i, h.drop i = ix1 b → ∃ k : Fin n1, i = ix2 b k := fun i hi => by
    obtain ⟨k, hk⟩ := (h.fiber_r2_a1 (ix1 b) i).mp hi
    exact ⟨k, hk.symm⟩
  obtain ⟨T, r, e, hr, hle, hmin, hor⟩ := foldl_spec f
    (((List.finRange (⟨2, ![n0, n1]⟩ : Shape).numel).filter fun n => h.drop ((⟨2, ![n0, n1]⟩ : Shape).rowMajor.symm n) = ix1 b).map
      fun n => ((⟨2, ![n0, n1]⟩ : Shape).rowMajor.symm n 1).val)
    (fun i hi => by
      obtain ⟨n, -, rfl⟩ := List.mem_map.mp hi
      have : ((⟨2, ![n0, n1]⟩ : Shape).rowMajor.symm n 1).val < n1 := ((⟨2, ![n0, n1]⟩ : Shape).rowMajor.symm n 1).isLt
      omega)
  have hlist : Host.argReduceFiber x (iotaInDim ⟨2, ![n0, n1]⟩ 32 1) h (ix1 b)
      = (((List.finRange (⟨2, ![n0, n1]⟩ : Shape).numel).filter fun n => h.drop ((⟨2, ![n0, n1]⟩ : Shape).rowMajor.symm n) = ix1 b).map
      fun n => ((⟨2, ![n0, n1]⟩ : Shape).rowMajor.symm n 1).val).map fun i => (f i, BitVec.ofNat 32 i) := by
    unfold Host.argReduceFiber
    rw [List.map_map]
    refine List.map_congr_left fun n hn => ?_
    obtain ⟨k, hk⟩ := hfib _ (by simpa using (List.mem_filter.mp hn).2)
    simp only [Function.comp, hk]
    exact Prod.ext (hf k).symm rfl
  have hmem : ∀ i, i < n1 → i ∈ (((List.finRange (⟨2, ![n0, n1]⟩ : Shape).numel).filter fun n => h.drop ((⟨2, ![n0, n1]⟩ : Shape).rowMajor.symm n) = ix1 b).map
      fun n => ((⟨2, ![n0, n1]⟩ : Shape).rowMajor.symm n 1).val) := fun i hi => by
    refine List.mem_map.mpr ⟨(⟨2, ![n0, n1]⟩ : Shape).rowMajor (ix2 b ⟨i, hi⟩), List.mem_filter.mpr ⟨List.mem_finRange _, ?_⟩, ?_⟩
    · rw [Equiv.symm_apply_apply]
      exact decide_eq_true ((h.fiber_r2_a1 (ix1 b) _).mpr ⟨⟨i, hi⟩, rfl⟩)
    · rw [Equiv.symm_apply_apply]
      rfl
  have hin : ∀ i ∈ (((List.finRange (⟨2, ![n0, n1]⟩ : Shape).numel).filter fun n => h.drop ((⟨2, ![n0, n1]⟩ : Shape).rowMajor.symm n) = ix1 b).map
      fun n => ((⟨2, ![n0, n1]⟩ : Shape).rowMajor.symm n 1).val), i < n1 := fun i hi => by
    obtain ⟨n, -, rfl⟩ := List.mem_map.mp hi
    exact ((⟨2, ![n0, n1]⟩ : Shape).rowMajor.symm n 1).isLt
  rw [hlist, e]
  refine ⟨T, r, ?_, rfl⟩
  rcases hor with ⟨rfl, rfl⟩ | ⟨hm, he⟩
  · exact ⟨h0, le_antisymm (hle 0 (hmem 0 h0)) bot_le, fun i hi => hle i (hmem i hi), fun i hi => absurd hi (Nat.not_lt_zero _)⟩
  · refine ⟨hin r hm, he, fun i hi => hle i (hmem i hi), fun i hi => ?_⟩
    have hi' := hmem i (hi.trans (hin r hm))
    refine lt_of_le_of_ne (hle i hi') fun hc => ?_
    have := hmin i hi' hc
    omega

/-- The greatest value over a range is the fold of the maximum over it. -/
theorem fold_of_best {n : ℕ} {f : ℕ → EReal} {T : EReal} {r : ℕ} (h : Best f n T r) :
    (Finset.univ : Finset (Fin n)).fold max ⊥ (fun k => f k.val) = T := by
  refine le_antisymm ((Finset.fold_max_le _).mpr ⟨bot_le, fun k _ => h.le k.val k.isLt⟩) ?_
  exact Finset.le_fold_max _ |>.mpr (Or.inr ⟨⟨r, h.lt⟩, Finset.mem_univ _, h.eq.ge⟩)

/-- The two results of the reference, per batch row: the greatest similarity and the first position that has it. -/
theorem best_spec (s : FVec Ideal S1024x100000 .f32) (b : Fin 1024) :
    ∃ T r, Best (fun i => s (ix2 b (Fin.ofNat 100000 i))) 100000 T r ∧ best s (ix2 0 b) = T ∧ bestAt s (ix2 0 b) = BitVec.ofNat 32 r := by
  have hf : ∀ k : Fin 100000, (fun i => s (ix2 b (Fin.ofNat 100000 i))) k.val = s (ix2 b k) := fun k => by
    show s (ix2 b (Fin.ofNat 100000 k.val)) = _
    rw [show Fin.ofNat 100000 k.val = k from Fin.ext (Nat.mod_eq_of_lt k.isLt)]
  obtain ⟨T, r, h, e⟩ := arg_best s (constant (F := Ideal) S_ .f32 0xFF800000#32) (constantI S_ 32 0#32) reducesTo_S1024x100000_S1024_d1 h_S_
    (fun _ => bot_literal) (fun _ => rfl) b (fun i => s (ix2 b (Fin.ofNat 100000 i))) hf (by decide) (by decide)
  refine ⟨T, r, h, ?_, ?_⟩
  · rw [best_at, ← fold_of_best h]
    exact congrArg (fun g => Finset.fold max ⊥ g Finset.univ) (funext fun k => (hf k).symm)
  · unfold bestAt
    rw [cast_at]
    exact e

end Cert.ReferenceIdeal.Stage

end
-- ==== Proof.RefRun.lean ====
/-
  What an execution of the reference leaves: its two results, and its arguments as they were.
-/
module

public import proofs.«01_k».proof.Proof.RefBest
public import proofs.«01_k».proof.Proof.RefValue
public import Idealize.ShloMosaic.Lib.Quiescent

@[expose] public section

set_option maxRecDepth 16384

noncomputable section

namespace Cert.ReferenceIdeal.Stage

open Cert.ReferenceIdeal Cert.ReferenceIdeal.Gen Idealize.ShloMosaic Idealize.ShloMosaic.StableHlo Idealize.ShloMosaic.TcCoe Idealize.SL.Sem Cert.Spec Cert.Best

variable (m : (ℓ : Loc nD τ sig) → Buf (Elt Ideal) ℓ)

/-- The similarities of the reference, of the arguments. -/
def simsAt (c : Dev nD) : FVec Ideal S1024x100000 .f32 :=
  simsOf (encOf (launchContents m c)) (m ((c.tc : Thread nD τ).loc main_arg11))

/-- The execution. -/
theorem leaves (ρ : Dev nD → PrngReg) :
    θ_run defs (onTc (τ := τ) (main (F := Ideal))) ⟨m, fun _ => 0, ρ⟩ fun r => ∀ c : Dev nD,
      r.2.mem ((c.tc : Thread nD τ).loc main_v89) = best (simsAt m c)
      ∧ r.2.mem ((c.tc : Thread nD τ).loc main_v90) = bestAt (simsAt m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) := by
  refine (θ_run defs _ _).mono (fun r h c => ?_) (run m ρ)
  have k : ∀ b : Ref sig .tc, b ∉ outA ++ outB ++ outC ++ outD ++ outE → b ∉ outF ++ outG ++ outH ++ outI ++ outJ ++ outK →
      b ∉ outL ++ outM ++ outN ++ outO ++ outQ → r.2.mem ((c.tc : Thread nD τ).loc b) = m ((c.tc : Thread nD τ).loc b) :=
    fun b h1 h2 h3 => (h c b).trans (kept (launchContents m c) b h1 h2 h3)
  exact ⟨(h c main_v89).trans (result0 (launchContents m c)), (h c main_v90).trans (result1 (launchContents m c)),
    k main_arg0 (by decide) (by decide) (by decide), k main_arg1 (by decide) (by decide) (by decide), k main_arg2 (by decide) (by decide) (by decide), k main_arg3 (by decide) (by decide) (by decide), k main_arg4 (by decide) (by decide) (by decide), k main_arg5 (by decide) (by decide) (by decide), k main_arg6 (by decide) (by decide) (by decide), k main_arg7 (by decide) (by decide) (by decide), k main_arg8 (by decide) (by decide) (by decide), k main_arg9 (by decide) (by decide) (by decide), k main_arg10 (by decide) (by decide) (by decide), k main_arg11 (by decide) (by decide) (by decide)⟩

/-- The reference has no semaphore. -/
theorem no_sems (s : MemSt nD τ sig (Elt Ideal)) : s.sem = fun _ => 0 := sem_eq_zero_of_no_sems (by decide) s

end Cert.ReferenceIdeal.Stage

end
-- ==== Proof.Join.lean ====
/-
  The two programs leave the same results: the encodings of the batch rows are the same, and on rows that satisfy the
  condition the similarities are the same numbers, so their greatest values and first places are the same.
-/
module

public import proofs.«01_k».proof.Proof.Grid
public import proofs.«01_k».proof.Proof.Enc
public import proofs.«01_k».proof.Proof.Equate
public import proofs.«01_k».proof.Proof.PreRead
public import proofs.«01_k».proof.Proof.RefRun

@[expose] public section

set_option maxRecDepth 16384

noncomputable section

namespace Cert.Join

open Idealize.ShloMosaic Idealize.ShloMosaic.TcCoe Cert.Spec Cert.Best Cert.ReferenceIdeal.Stage Cert.KernelIdeal.Slab Cert.KernelIdeal.Value

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

/-- The arguments of the two programs are the same. -/
def Agree : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)

/-- The encoding that the reference computes, of the arguments of the kernel. -/
def enc : FVec Ideal Cert.ReferenceIdeal.S1024x128 .f32 :=
  lin3 (hid2 (hid1 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) (m ((c.tc : Thread Cert.KernelIdeal.nD Cert.KernelIdeal.τ).loc Cert.KernelIdeal.main_arg9)) (m ((c.tc : Thread Cert.KernelIdeal.nD Cert.KernelIdeal.τ).loc Cert.KernelIdeal.main_arg10))

/-- A row of it is the row that the kernel computes. -/
theorem enc_row (b : Fin 1024) : (fun j : Fin 128 => enc m c (ix2 b j)) = encZ m c b :=
  funext fun j => enc_at _ _ _ _ _ _ _ _ _ _ _ b j

/-- The similarities of the reference, of the arguments of the kernel. -/
theorem sims_of_agree (h : Agree m m' c) : simsAt m' c = simsOf (enc m c) (m ((c.tc : Thread Cert.KernelIdeal.nD Cert.KernelIdeal.τ).loc Cert.KernelIdeal.main_arg11)) := by
  obtain ⟨h0, h1, h2, h3, h4, h5, h6, h7, h8, h9, h10, h11⟩ := h
  show simsOf (lin3 (hid2 (hid1 (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4))) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8))) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10))) (m' ((c.tc : Thread Cert.ReferenceIdeal.nD Cert.ReferenceIdeal.τ).loc Cert.ReferenceIdeal.main_arg11)) = _
  rw [h0, h1, h2, h3, h4, h5, h6, h7, h8, h9, h10, h11]
  rfl

/-- An index of a single row is its place in the row. -/
theorem single (i : Shape.Idx ⟨2, ![1, 1024]⟩) : i = ix2 0 (i 1) := by
  funext a
  match a with
  | ⟨0, _⟩ => exact Fin.ext (by have : (i 0).val < 1 := (i 0).isLt; show (i 0).val = 0; omega)
  | ⟨1, _⟩ => rfl

/-- The results agree at a batch row. -/
theorem row_agrees (h : Agree m m' c) (hp : Cert.Pre_encoding_normalized.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) = fun _ => 1#1) (b : Fin 1024) :
    G12 m c (ix2 0 b) = best (simsAt m' c) (ix2 0 b) ∧ G13 m c (ix2 0 b) = bestAt (simsAt m' c) (ix2 0 b) := by
  obtain ⟨T, r, hK, e1, e2⟩ := results m c b
  obtain ⟨T', r', hR, e3, e4⟩ := best_spec (simsAt m' c) b
  have hz : c12 ≤ norm (encZ m c b) ∨ norm (encZ m c b) = 0 := by
    rw [← enc_row]
    exact pre_at _ _ _ _ _ _ _ _ _ _ _ _ hp b
  have hn : ptN m c t0 (ix2 0 b) = norm (Spec.unit c12 (encZ m c b)) := encN_blocks m c t0 b
  have hrow : (fun j : Fin 128 => ptE m c t0 (ix2 b j)) = Spec.unit c12 (encZ m c b) := funext fun j => encE_blocks m c t0 b j
  have hsK : simRow m c (ptE m c t0) b = fun i => simK c8 (Spec.unit c12 (encZ m c b)) (fun j : Fin 128 => (m ((c.tc : Thread Cert.KernelIdeal.nD Cert.KernelIdeal.τ).loc Cert.KernelIdeal.main_arg11)) (ix2 (Fin.ofNat 100000 i) j)) := by
    funext i
    unfold simRow
    rw [hrow]
  have hsR : (fun i => simsAt m' c (ix2 b (Fin.ofNat 100000 i))) = fun i => simR c8 (Spec.unit c12 (encZ m c b)) (fun j : Fin 128 => (m ((c.tc : Thread Cert.KernelIdeal.nD Cert.KernelIdeal.τ).loc Cert.KernelIdeal.main_arg11)) (ix2 (Fin.ofNat 100000 i) j)) := by
    funext i
    rw [sims_of_agree m m' c h, simsOf_at, enc_row]
  rw [hsK] at hK
  rw [hsR] at hR
  obtain ⟨eT, er⟩ := results_agree (encZ m c b) _ hz hK hR
  rw [e1, e2, e3, e4, hn, eT, er]
  exact ⟨rfl, rfl⟩

/-- The first results agree. -/
theorem first_agrees (h : Agree m m' c) (hp : Cert.Pre_encoding_normalized.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) = fun _ => 1#1) :
    G12 m c = best (simsAt m' c) :=
  funext fun i => by rw [single i]; exact (row_agrees m m' c h hp (i 1)).1

/-- The second results agree. -/
theorem second_agrees (h : Agree m m' c) (hp : Cert.Pre_encoding_normalized.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) = fun _ => 1#1) :
    G13 m c = bestAt (simsAt m' c) :=
  funext fun i => by rw [single i]; exact (row_agrees m m' c h hp (i 1)).2

end Cert.Join

end
-- ==== Proof.lean ====
/-
  The claims about the kernel that finds, for each encoded row, the greatest cosine similarity with the task embeddings and
  its first place: each program runs and leaves its arguments as they were, the idealized kernel is the kernel with one
  constant named, and the idealized kernel and the reference end with the same results.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_encoding_normalized
public import proofs.«01_k».proof.Proof.Gen.KernelIdeal.Value
public import proofs.«01_k».proof.Proof.Join
public import proofs.«01_k».proof.Proof.RefRun
public import Idealize.ShloMosaic.Adequacy
public import Idealize.ShloMosaic.Init

@[expose] public section

noncomputable section

namespace Cert.Proof

open Idealize.ShloMosaic Idealize.SL.Sem Cert.Kernel

/-- The reference runs, leaves its arguments as they were and has no semaphore that could be left raised. -/
theorem frame_ri : Cert.quiescent_ReferenceIdeal := fun m ρ _ =>
  (θ_run Cert.ReferenceIdeal.defs _ _).mono (fun r h => ⟨fun c => (h c).2.2, Cert.ReferenceIdeal.Stage.no_sems r.2⟩) (Cert.ReferenceIdeal.Stage.leaves m ρ)

/-- The constant that the idealized kernel names is the inverse of the root of two. -/
theorem preserves : Cert.preserves_Kernel_KernelIdeal :=
  IdealRules.named_const.statement Cert.KernelIdeal.κ "rsqrt2" .f32 0x3F3504F3#32 (((Real.sqrt 2)⁻¹ : ℝ) : EReal) rfl

/-- From arguments that agree and satisfy the condition, kernel and reference end with the same greatest similarities and
    the same places. -/
theorem algebraic : Cert.algebraic_KernelIdeal_ReferenceIdeal_pre_encoding_normalized := by
  intro m ρ m' ρ' hp hagree
  refine ⟨_, _, Cert.KernelIdeal.Value.run (F := Ideal) m ρ, ?_⟩
  refine (θ_run Cert.ReferenceIdeal.defs _ _).mono (fun r h c => ?_) (Cert.ReferenceIdeal.Stage.leaves m' ρ')
  exact ⟨(h c).1.trans (Cert.Join.first_agrees m m' c (hagree c) (hp c)).symm,
    (h c).2.1.trans (Cert.Join.second_agrees m m' c (hagree c) (hp c)).symm, (h c).2.2⟩

/-- All the claims. -/
theorem claim : Cert.Claim :=
  ⟨Cert.Kernel.Gen.facts, Cert.KernelIdeal.Gen.facts, Cert.ReferenceIdeal.Gen.facts, Cert.Pre_encoding_normalized.Gen.facts,
    fun m ρ _ => Cert.Kernel.Gen.frame m ρ, fun m ρ _ => Cert.KernelIdeal.Gen.frame m ρ, fun m ρ _ => Cert.KernelIdeal.Gen.frame m ρ,
    frame_ri, fun m ρ _ => frame_ri m ρ trivial, preserves, algebraic⟩

end Cert.Proof

end
